-- ==== Defs.lean ====
def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatIdeal_finite [hPre_finite : Cert.Pre_finite.Facts] (m : (ℓ : Loc Cert.LatIdeal.nD Cert.LatIdeal.τ Cert.LatIdeal.sig) → Buf (Elt Ideal) ℓ) : Prop :=
  ∀ c : Dev Cert.LatIdeal.nD,
    (Cert.Pre_finite.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))).1 = (fun _ => 1#1)
    ∧ (Cert.Pre_finite.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))).2.1 = (fun _ => 1#1)
    ∧ (Cert.Pre_finite.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))).2.2 = (fun _ => 1#1)

def Pre_LatRefIdeal (m : (ℓ : Loc Cert.LatRefIdeal.nD Cert.LatRefIdeal.τ Cert.LatRefIdeal.sig) → Buf (Elt Ideal) ℓ) : Prop :=
  True

def Pre_LatRefIdeal_finite [hPre_finite : Cert.Pre_finite.Facts] (m : (ℓ : Loc Cert.LatRefIdeal.nD Cert.LatRefIdeal.τ Cert.LatRefIdeal.sig) → Buf (Elt Ideal) ℓ) : Prop :=
  ∀ c : Dev Cert.LatRefIdeal.nD,
    (Cert.Pre_finite.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4))).1 = (fun _ => 1#1)
    ∧ (Cert.Pre_finite.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4))).2.1 = (fun _ => 1#1)
    ∧ (Cert.Pre_finite.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4))).2.2 = (fun _ => 1#1)

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ r.2.sem = fun _ => 0)

def quiescent_LatIdeal_pre_finite [hLatIdeal : Cert.LatIdeal.Facts] [hPre_finite : Cert.Pre_finite.Facts] : Prop :=
  ∀ (m : (ℓ : Loc Cert.LatIdeal.nD Cert.LatIdeal.τ Cert.LatIdeal.sig) → Buf (Elt Ideal) ℓ) (g : Dev Cert.LatIdeal.nD → PrngReg), Pre_LatIdeal_finite m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4))
      ∧ r.2.sem = fun _ => 0)

def quiescent_LatRefIdeal_pre_finite [hLatRefIdeal : Cert.LatRefIdeal.Facts] [hPre_finite : Cert.Pre_finite.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal_finite m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1)
      ∧ r.2.mem ((c.tc : Thread Cert.PreNorm.nD Cert.PreNorm.τ).loc Cert.PreNorm.main_arg2) = m ((c.tc : Thread Cert.PreNorm.nD Cert.PreNorm.τ).loc Cert.PreNorm.main_arg2))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1)
      ∧ r.2.mem ((c.tc : Thread Cert.PreNormRefIdeal.nD Cert.PreNormRefIdeal.τ).loc Cert.PreNormRefIdeal.main_arg2) = m ((c.tc : Thread Cert.PreNormRefIdeal.nD Cert.PreNormRefIdeal.τ).loc Cert.PreNormRefIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1))
      ∧ r.2.sem = fun _ => 0)

def preserves_Ctx_CtxIdeal : Prop :=
  IdealRules.named_const.Statement Cert.CtxIdeal.κ "attn_scale" .f32 0x3DB504F3#32 (((Real.sqrt 128)⁻¹ : ℝ) : EReal)

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)) →
    ∃ (v0 : (c : Dev Cert.CtxIdeal.nD) → Buf (Elt Ideal) ((c.tc : Thread Cert.CtxIdeal.nD Cert.CtxIdeal.τ).loc Cert.CtxIdeal.main_v1)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v1) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v44) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)) (v1 : (c : Dev Cert.InProjIdeal.nD) → Buf (Elt Ideal) ((c.tc : Thread Cert.InProjIdeal.nD Cert.InProjIdeal.τ).loc Cert.InProjIdeal.main_v3)) (v2 : (c : Dev Cert.InProjIdeal.nD) → Buf (Elt Ideal) ((c.tc : Thread Cert.InProjIdeal.nD Cert.InProjIdeal.τ).loc Cert.InProjIdeal.main_v5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_v3) = v1 c
          ∧ r.2.mem ((c.tc : Thread Cert.InProjIdeal.nD Cert.InProjIdeal.τ).loc Cert.InProjIdeal.main_v5) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_v5) = v1 c
          ∧ r.2.mem ((c.tc : Thread Cert.InProjRefIdeal.nD Cert.InProjRefIdeal.τ).loc Cert.InProjRefIdeal.main_v7) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v12) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v14) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v66) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Lat_LatIdeal : Prop :=
  IdealRules.named_const.Statement Cert.LatIdeal.κ "attn_scale" .f32 0x3DB504F3#32 (((Real.sqrt 128)⁻¹ : ℝ) : EReal)
  ∧ IdealRules.named_const.Statement Cert.LatIdeal.κ "mask" .f32 0xF149F2CA#32 ⊥

def algebraic_LatIdeal_LatRefIdeal_pre_finite [hLatIdeal : Cert.LatIdeal.Facts] [hLatRefIdeal : Cert.LatRefIdeal.Facts] [hPre_finite : Cert.Pre_finite.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal_finite m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)
      ∧ m' ((c.tc : Thread Cert.LatRefIdeal.nD Cert.LatRefIdeal.τ).loc Cert.LatRefIdeal.main_arg4) = m ((c.tc : Thread Cert.LatIdeal.nD Cert.LatIdeal.τ).loc Cert.LatIdeal.main_arg4)) →
    ∃ (v0 : (c : Dev Cert.LatIdeal.nD) → Buf (Elt Ideal) ((c.tc : Thread Cert.LatIdeal.nD Cert.LatIdeal.τ).loc Cert.LatIdeal.main_v41)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v41) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v182) = v0 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)
      ∧ m' ((c.tc : Thread Cert.PreNormRefIdeal.nD Cert.PreNormRefIdeal.τ).loc Cert.PreNormRefIdeal.main_arg2) = m ((c.tc : Thread Cert.PreNormIdeal.nD Cert.PreNormIdeal.τ).loc Cert.PreNormIdeal.main_arg2)) →
    ∃ (v0 : (c : Dev Cert.PreNormIdeal.nD) → Buf (Elt Ideal) ((c.tc : Thread Cert.PreNormIdeal.nD Cert.PreNormIdeal.τ).loc Cert.PreNormIdeal.main_v1)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v1) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
          ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v35) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1)
          ∧ r.2.mem ((c.tc : Thread Cert.PreNormRefIdeal.nD Cert.PreNormRefIdeal.τ).loc Cert.PreNormRefIdeal.main_arg2) = m' ((c.tc : Thread Cert.PreNormRefIdeal.nD Cert.PreNormRefIdeal.τ).loc Cert.PreNormRefIdeal.main_arg2))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v8) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)) →
    ∃ (v0 : (c : Dev Cert.PromptIdeal.nD) → Buf (Elt Ideal) ((c.tc : Thread Cert.PromptIdeal.nD Cert.PromptIdeal.τ).loc Cert.PromptIdeal.main_v1)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v1) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v13) = v0 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)) →
    ∃ (v0 : (c : Dev Cert.SampleIdeal.nD) → Buf (Elt Ideal) ((c.tc : Thread Cert.SampleIdeal.nD Cert.SampleIdeal.τ).loc Cert.SampleIdeal.main_v1)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v1) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v13) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1))

def Claim : Prop :=
  ∃ (hCtx : Cert.Ctx.Facts) (hCtxIdeal : Cert.CtxIdeal.Facts) (hCtxRefIdeal : Cert.CtxRefIdeal.Facts) (hInProj : Cert.InProj.Facts) (hInProjIdeal : Cert.InProjIdeal.Facts) (hInProjRefIdeal : Cert.InProjRefIdeal.Facts) (hDown : Cert.Down.Facts) (hDownIdeal : Cert.DownIdeal.Facts) (hDownRefIdeal : Cert.DownRefIdeal.Facts) (hOutProj : Cert.OutProj.Facts) (hOutProjIdeal : Cert.OutProjIdeal.Facts) (hOutProjRefIdeal : Cert.OutProjRefIdeal.Facts) (hUp : Cert.Up.Facts) (hUpIdeal : Cert.UpIdeal.Facts) (hUpRefIdeal : Cert.UpRefIdeal.Facts) (hLat : Cert.Lat.Facts) (hLatIdeal : Cert.LatIdeal.Facts) (hLatRefIdeal : Cert.LatRefIdeal.Facts) (hPreNorm : Cert.PreNorm.Facts) (hPreNormIdeal : Cert.PreNormIdeal.Facts) (hPreNormRefIdeal : Cert.PreNormRefIdeal.Facts) (hMod : Cert.Mod.Facts) (hModIdeal : Cert.ModIdeal.Facts) (hModRefIdeal : Cert.ModRefIdeal.Facts) (hPrompt : Cert.Prompt.Facts) (hPromptIdeal : Cert.PromptIdeal.Facts) (hPromptRefIdeal : Cert.PromptRefIdeal.Facts) (hSample : Cert.Sample.Facts) (hSampleIdeal : Cert.SampleIdeal.Facts) (hSampleRefIdeal : Cert.SampleRefIdeal.Facts) (hPre_finite : Cert.Pre_finite.Facts),
    quiescent_Ctx (hCtx := hCtx)
    ∧ quiescent_CtxIdeal (hCtxIdeal := hCtxIdeal)
    ∧ quiescent_CtxRefIdeal (hCtxRefIdeal := hCtxRefIdeal)
    ∧ quiescent_InProj (hInProj := hInProj)
    ∧ quiescent_InProjIdeal (hInProjIdeal := hInProjIdeal)
    ∧ quiescent_InProjRefIdeal (hInProjRefIdeal := hInProjRefIdeal)
    ∧ quiescent_Down (hDown := hDown)
    ∧ quiescent_DownIdeal (hDownIdeal := hDownIdeal)
    ∧ quiescent_DownRefIdeal (hDownRefIdeal := hDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Up (hUp := hUp)
    ∧ quiescent_UpIdeal (hUpIdeal := hUpIdeal)
    ∧ quiescent_UpRefIdeal (hUpRefIdeal := hUpRefIdeal)
    ∧ quiescent_Lat (hLat := hLat)
    ∧ quiescent_LatIdeal (hLatIdeal := hLatIdeal)
    ∧ quiescent_LatIdeal_pre_finite (hLatIdeal := hLatIdeal) (hPre_finite := hPre_finite)
    ∧ quiescent_LatRefIdeal (hLatRefIdeal := hLatRefIdeal)
    ∧ quiescent_LatRefIdeal_pre_finite (hLatRefIdeal := hLatRefIdeal) (hPre_finite := hPre_finite)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_Mod (hMod := hMod)
    ∧ quiescent_ModIdeal (hModIdeal := hModIdeal)
    ∧ quiescent_ModRefIdeal (hModRefIdeal := hModRefIdeal)
    ∧ quiescent_Prompt (hPrompt := hPrompt)
    ∧ quiescent_PromptIdeal (hPromptIdeal := hPromptIdeal)
    ∧ quiescent_PromptRefIdeal (hPromptRefIdeal := hPromptRefIdeal)
    ∧ quiescent_Sample (hSample := hSample)
    ∧ quiescent_SampleIdeal (hSampleIdeal := hSampleIdeal)
    ∧ quiescent_SampleRefIdeal (hSampleRefIdeal := hSampleRefIdeal)
    ∧ preserves_Ctx_CtxIdeal
    ∧ algebraic_CtxIdeal_CtxRefIdeal (hCtxIdeal := hCtxIdeal) (hCtxRefIdeal := hCtxRefIdeal)
    ∧ preserves_InProj_InProjIdeal
    ∧ algebraic_InProjIdeal_InProjRefIdeal (hInProjIdeal := hInProjIdeal) (hInProjRefIdeal := hInProjRefIdeal)
    ∧ preserves_Down_DownIdeal
    ∧ algebraic_DownIdeal_DownRefIdeal (hDownIdeal := hDownIdeal) (hDownRefIdeal := hDownRefIdeal)
    ∧ preserves_OutProj_OutProjIdeal
    ∧ algebraic_OutProjIdeal_OutProjRefIdeal (hOutProjIdeal := hOutProjIdeal) (hOutProjRefIdeal := hOutProjRefIdeal)
    ∧ preserves_Up_UpIdeal
    ∧ algebraic_UpIdeal_UpRefIdeal (hUpIdeal := hUpIdeal) (hUpRefIdeal := hUpRefIdeal)
    ∧ preserves_Lat_LatIdeal
    ∧ algebraic_LatIdeal_LatRefIdeal_pre_finite (hLatIdeal := hLatIdeal) (hLatRefIdeal := hLatRefIdeal) (hPre_finite := hPre_finite)
    ∧ preserves_PreNorm_PreNormIdeal
    ∧ algebraic_PreNormIdeal_PreNormRefIdeal (hPreNormIdeal := hPreNormIdeal) (hPreNormRefIdeal := hPreNormRefIdeal)
    ∧ preserves_Mod_ModIdeal
    ∧ algebraic_ModIdeal_ModRefIdeal (hModIdeal := hModIdeal) (hModRefIdeal := hModRefIdeal)
    ∧ preserves_Prompt_PromptIdeal
    ∧ algebraic_PromptIdeal_PromptRefIdeal (hPromptIdeal := hPromptIdeal) (hPromptRefIdeal := hPromptRefIdeal)
    ∧ preserves_Sample_SampleIdeal
    ∧ algebraic_SampleIdeal_SampleRefIdeal (hSampleIdeal := hSampleIdeal) (hSampleRefIdeal := hSampleRefIdeal)
-- ==== Pre_finite.lean ====
abbrev S10240x9216 : Shape := ⟨2, ![10240, 9216]⟩
abbrev S2x512x4x128 : Shape := ⟨4, ![2, 512, 4, 128]⟩
abbrev S16 : Shape := ⟨1, ![16]⟩
abbrev S2048 : Shape := ⟨1, ![2048]⟩
abbrev S2048x2560 : Shape := ⟨2, ![2048, 2560]⟩
abbrev S_ : Shape := ⟨0, ![]⟩

class Facts : Prop where
  slices_S10240x9216_S2048x2560_8192_6144 : S10240x9216.Slices ![8192, 6144] S2048x2560
  bcast_S_S2048x2560 : S_.BroadcastsInDim S2048x2560 (![] : Fin 0 → Fin S2048x2560.rank)
  bcast_S_S2x512x4x128 : S_.BroadcastsInDim S2x512x4x128 (![] : Fin 0 → Fin S2x512x4x128.rank)
  bcast_S_S16 : S_.BroadcastsInDim S16 (![] : Fin 0 → Fin S16.rank)

variable [Facts]

def fn {F : FTy → Type} [FloatOps F] (main_arg0 : FVec F S10240x9216 .f32) (main_arg1 : FVec F S2x512x4x128 .f32) (main_arg2 : FVec F S2x512x4x128 .f32) (main_arg3 : FVec F S16 .f32) (main_arg4 : FVec F S2048 .f32) : IVec S2048x2560 1 × IVec S2x512x4x128 1 × IVec S16 1 :=
  let main_v0 : FVec F S2048x2560 .f32 := (extractStridedSlice S2048x2560 ![8192, 6144] · slices_S10240x9216_S2048x2560_8192_6144) main_arg0
  let main_v1 : FVec F S2048x2560 .f32 := Host.absf main_v0
  let main_cst : FVec F S_ .f32 := constant S_ .f32 0x7F800000#32
  let main_v2 : FVec F S2048x2560 .f32 := broadcastInDim S2048x2560 ![] bcast_S_S2048x2560 main_cst
  let main_v3 : IVec S2048x2560 1 := cmpf .olt main_v1 main_v2
  let main_v4 : FVec F S2x512x4x128 .f32 := Host.absf main_arg1
  let main_cst_0 : FVec F S_ .f32 := constant S_ .f32 0x7F800000#32
  let main_v5 : FVec F S2x512x4x128 .f32 := broadcastInDim S2x512x4x128 ![] bcast_S_S2x512x4x128 main_cst_0
  let main_v6 : IVec S2x512x4x128 1 := cmpf .olt main_v4 main_v5
  let main_v7 : FVec F S16 .f32 := Host.absf main_arg3
  let main_cst_1 : FVec F S_ .f32 := constant S_ .f32 0x7F800000#32
  let main_v8 : FVec F S16 .f32 := broadcastInDim S16 ![] bcast_S_S16 main_cst_1
  let main_v9 : IVec S16 1 := cmpf .olt main_v7 main_v8
  (main_v3, main_v6, main_v9)
-- ==== Ctx.lean ====
abbrev S10240x9216 : Shape := ⟨2, ![10240, 9216]⟩
abbrev S16 : Shape := ⟨1, ![16]⟩
abbrev S2048 : Shape := ⟨1, ![2048]⟩
abbrev S1x2048 : Shape := ⟨2, ![1, 2048]⟩
abbrev S8192x2048 : Shape := ⟨2, ![8192, 2048]⟩
abbrev S256x2048 : Shape := ⟨2, ![256, 2048]⟩
abbrev S256x512 : Shape := ⟨2, ![256, 512]⟩
abbrev S256x128 : Shape := ⟨2, ![256, 128]⟩
abbrev S256x256 : Shape := ⟨2, ![256, 256]⟩
abbrev S1 : Shape := ⟨1, ![1]⟩
abbrev S256 : Shape := ⟨1, ![256]⟩
abbrev S256x1 : Shape := ⟨2, ![256, 1]⟩

abbrev nBuf : Space → Nat
  | .hbm => 5
  | .vmem => 10
  | .smem => 1
  | _ => 0

abbrev bufTy : (tb : Table) → Fin (tcTables nBuf tb) → BufTy
  | .hbm, ⟨0, _⟩ => ⟨S10240x9216, .f32⟩
  | .hbm, ⟨1, _⟩ => ⟨S16, .f32⟩
  | .hbm, ⟨2, _⟩ => ⟨S2048, .f32⟩
  | .hbm, ⟨3, _⟩ => ⟨S1x2048, .f32⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .f32⟩
  | .local _ .smem, ⟨0, _⟩ => ⟨S16, .f32⟩
  | _, _ => ⟨S10240x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_3 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CtxIdeal.lean ====
variable {F : FTy → Type} [FloatOps F] [Named F]
def κ : String → Option EReal := fun
  | "attn_scale" => some (((Real.sqrt 128)⁻¹ : ℝ) : EReal)
  | _ => none
-- ==== CtxRefIdeal.lean ====
abbrev S10240x9216 : Shape := ⟨2, ![10240, 9216]⟩
abbrev S16 : Shape := ⟨1, ![16]⟩
abbrev S2048 : Shape := ⟨1, ![2048]⟩
abbrev S8192x9216 : Shape := ⟨2, ![8192, 9216]⟩
abbrev S32x256x9216 : Shape := ⟨3, ![32, 256, 9216]⟩
abbrev S32x256x2048 : Shape := ⟨3, ![32, 256, 2048]⟩
abbrev S32x256x4x4x128 : Shape := ⟨5, ![32, 256, 4, 4, 128]⟩
abbrev S32x256x512 : Shape := ⟨3, ![32, 256, 512]⟩
abbrev S32x256x4x128 : Shape := ⟨4, ![32, 256, 4, 128]⟩
abbrev S32x4x256x256x4 : Shape := ⟨5, ![32, 4, 256, 256, 4]⟩
abbrev S32x4x4x256x256 : Shape := ⟨5, ![32, 4, 4, 256, 256]⟩
abbrev S_ : Shape := ⟨0, ![]⟩
abbrev S4x4x1x1 : Shape := ⟨4, ![4, 4, 1, 1]⟩
abbrev S32x4x4x256x1 : Shape := ⟨5, ![32, 4, 4, 256, 1]⟩
abbrev S32x4x4x256x257 : Shape := ⟨5, ![32, 4, 4, 256, 257]⟩
abbrev S32x4x4x256 : Shape := ⟨4, ![32, 4, 4, 256]⟩
abbrev S32x4x128x4x256 : Shape := ⟨5, ![32, 4, 128, 4, 256]⟩
abbrev S8192x2048 : Shape := ⟨2, ![8192, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S10240x9216, .f32⟩
  | .hbm, ⟨1, _⟩ => ⟨S16, .f32⟩
  | .hbm, ⟨2, _⟩ => ⟨S2048, .f32⟩
  | .hbm, ⟨3, _⟩ => ⟨S8192x9216, .f32⟩
  | .hbm, ⟨4, _⟩ => ⟨S32x256x9216, .f32⟩
  | .hbm, ⟨5, _⟩ => ⟨S32x256x2048, .f32⟩
  | .hbm, ⟨6, _⟩ => ⟨S32x256x4x4x128, .f32⟩
  | .hbm, ⟨7, _⟩ => ⟨S32x256x512, .f32⟩
  | .hbm, ⟨8, _⟩ => ⟨S32x256x4x128, .f32⟩
  | .hbm, ⟨9, _⟩ => ⟨S32x256x512, .f32⟩
  | .hbm, ⟨10, _⟩ => ⟨S32x256x4x128, .f32⟩
  | .hbm, ⟨11, _⟩ => ⟨S32x4x256x256x4, .f32⟩
  | .hbm, ⟨12, _⟩ => ⟨S32x4x4x256x256, .f32⟩
  | .hbm, ⟨13, _⟩ => ⟨S_, .f32⟩
  | .hbm, ⟨14, _⟩ => ⟨S_, .f32⟩
  | .hbm, ⟨15, _⟩ => ⟨S32x4x4x256x256, .f32⟩
  | .hbm, ⟨16, _⟩ => ⟨S32x4x4x256x256, .f32⟩
  | .hbm, ⟨17, _⟩ => ⟨S4x4x1x1, .f32⟩
  | .hbm, ⟨18, _⟩ => ⟨S32x4x4x256x1, .f32⟩
  | .hbm, ⟨19, _⟩ => ⟨S32x4x4x256x257, .f32⟩
  | .hbm, ⟨20, _⟩ => ⟨S_, .f32⟩
  | .hbm, ⟨21, _⟩ => ⟨S32x4x4x256, .f32⟩
  | .hbm, ⟨22, _⟩ => ⟨S_, .f32⟩
  | .hbm, ⟨23, _⟩ => ⟨S32x4x4x256, .f32⟩
  | .hbm, ⟨24, _⟩ => ⟨S32x4x4x256, .f32⟩
  | .hbm, ⟨25, _⟩ => ⟨S32x4x4x256x1, .f32⟩
  | .hbm, ⟨26, _⟩ => ⟨S32x4x4x256x257, .f32⟩
  | .hbm, ⟨27, _⟩ => ⟨S32x4x4x256x257, .f32⟩
  | .hbm, ⟨28, _⟩ => ⟨S32x4x4x256x257, .f32⟩
  | .hbm, ⟨29, _⟩ => ⟨S_, .f32⟩
  | .hbm, ⟨30, _⟩ => ⟨S32x4x4x256, .f32⟩
  | .hbm, ⟨31, _⟩ => ⟨S32x4x4x256x1, .f32⟩
  | .hbm, ⟨32, _⟩ => ⟨S32x4x4x256x257, .f32⟩
  | .hbm, ⟨33, _⟩ => ⟨S32x4x4x256x257, .f32⟩
  | .hbm, ⟨34, _⟩ => ⟨S32x4x4x256x256, .f32⟩
  | .hbm, ⟨35, _⟩ => ⟨S32x4x128x4x256, .f32⟩
  | .hbm, ⟨36, _⟩ => ⟨S32x256x4x4x128, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S1x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | _, _ => ⟨S10240x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== InProj.lean ====
abbrev S10240x4096 : Shape := ⟨2, ![10240, 4096]⟩
abbrev S4096x9216 : Shape := ⟨2, ![4096, 9216]⟩
abbrev S10240x9216 : Shape := ⟨2, ![10240, 9216]⟩
abbrev S1024x4096 : Shape := ⟨2, ![1024, 4096]⟩
abbrev S4096x1024 : Shape := ⟨2, ![4096, 1024]⟩
abbrev S1024x1024 : Shape := ⟨2, ![1024, 1024]⟩
abbrev S8192x512 : Shape := ⟨2, ![8192, 512]⟩
abbrev S32x256x4x128 : Shape := ⟨4, ![32, 256, 4, 128]⟩

abbrev nBuf : Space → Nat
  | .hbm => 8
  | .vmem => 6
  | .smem => 0
  | _ => 0

abbrev bufTy : (tb : Table) → Fin (tcTables nBuf tb) → BufTy
  | .hbm, ⟨0, _⟩ => ⟨S10240x4096, .bf16⟩
  | .hbm, ⟨1, _⟩ => ⟨S4096x9216, .f32⟩
  | .hbm, ⟨2, _⟩ => ⟨S4096x9216, .bf16⟩
  | .hbm, ⟨3, _⟩ => ⟨S10240x9216, .f32⟩
  | .hbm, ⟨4, _⟩ => ⟨S8192x512, .f32⟩
  | .hbm, ⟨5, _⟩ => ⟨S32x256x4x128, .f32⟩
  | .hbm, ⟨6, _⟩ => ⟨S8192x512, .f32⟩
  | .hbm, ⟨7, _⟩ => ⟨S32x256x4x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S10240x4096 : Shape := ⟨2, ![10240, 4096]⟩
abbrev S4096x9216 : Shape := ⟨2, ![4096, 9216]⟩
abbrev S10240x9216 : Shape := ⟨2, ![10240, 9216]⟩
abbrev S8192x9216 : Shape := ⟨2, ![8192, 9216]⟩
abbrev S32x256x9216 : Shape := ⟨3, ![32, 256, 9216]⟩
abbrev S32x256x512 : Shape := ⟨3, ![32, 256, 512]⟩
abbrev S32x256x4x128 : Shape := ⟨4, ![32, 256, 4, 128]⟩

abbrev nBuf : Space → Nat
  | .hbm => 10
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S4096x9216, .f32⟩
  | .hbm, ⟨2, _⟩ => ⟨S10240x4096, .f32⟩
  | .hbm, ⟨3, _⟩ => ⟨S10240x9216, .f32⟩
  | .hbm, ⟨4, _⟩ => ⟨S8192x9216, .f32⟩
  | .hbm, ⟨5, _⟩ => ⟨S32x256x9216, .f32⟩
  | .hbm, ⟨6, _⟩ => ⟨S32x256x512, .f32⟩
  | .hbm, ⟨7, _⟩ => ⟨S32x256x4x128, .f32⟩
  | .hbm, ⟨8, _⟩ => ⟨S32x256x512, .f32⟩
  | .hbm, ⟨9, _⟩ => ⟨S32x256x4x128, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Down.lean ====
abbrev S10240x11008 : Shape := ⟨2, ![10240, 11008]⟩
abbrev S11008x4096 : Shape := ⟨2, ![11008, 4096]⟩
abbrev S10240x4096 : Shape := ⟨2, ![10240, 4096]⟩
abbrev S8x24576 : Shape := ⟨2, ![8, 24576]⟩
abbrev S512x11008 : Shape := ⟨2, ![512, 11008]⟩
abbrev S11008x512 : Shape := ⟨2, ![11008, 512]⟩
abbrev S512x512 : Shape := ⟨2, ![512, 512]⟩
abbrev S8x512 : Shape := ⟨2, ![8, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S10240x11008, .bf16⟩
  | .hbm, ⟨1, _⟩ => ⟨S11008x4096, .f32⟩
  | .hbm, ⟨2, _⟩ => ⟨S10240x4096, .f32⟩
  | .hbm, ⟨3, _⟩ => ⟨S8x24576, .f32⟩
  | .hbm, ⟨4, _⟩ => ⟨S11008x4096, .bf16⟩
  | .hbm, ⟨5, _⟩ => ⟨S10240x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S512x512, .f32⟩
  | .local _ .vmem, ⟨9, _⟩ => ⟨S512x512, .f32⟩
  | _, _ => ⟨S10240x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 20], ![false, false]⟩

def k0_off1 (i : grid0.Coords) : Fin 2 → Nat :=
  let arg1 : BitVec 32 := BitVec.ofNat 32 (i 1).val
  let c512_i32 : BitVec 32 := 512#32
  let v0 : BitVec 32 := Scalar.muli arg1 c512_i32
  let c8192_i32 : BitVec 32 := 8192#32
  let v1 : BitVec 1 := Scalar.cmpi .slt v0 c8192_i32
  let c0_i32_6 : BitVec 32 := 0#32
  let c1_i32_5 : BitVec 32 := 1#32
  let c8192_i32_0 : BitVec 32 := 8192#32
  let v2 : BitVec 32 := Scalar.subi v0 c8192_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32 : BitVec 32 := 1#32
  let v18 : BitVec 32 := Scalar.subi v3 c1_i32
  let v19 : BitVec 32 := Scalar.select v17 v18 v3
  let v20 : BitVec 32 := Scalar.addi c1_i32_5 v19
  let v21 : BitVec 32 := Scalar.select v1 c0_i32_6 v20
  let v27 : Index := Scalar.indexCast v21
  let c0_12 : Index := 0#32
  ![v27.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S10240x11008 : Shape := ⟨2, ![10240, 11008]⟩
abbrev S11008x4096 : Shape := ⟨2, ![11008, 4096]⟩
abbrev S10240x4096 : Shape := ⟨2, ![10240, 4096]⟩
abbrev S8x24576 : Shape := ⟨2, ![8, 24576]⟩
abbrev S8x4096 : Shape := ⟨2, ![8, 4096]⟩
abbrev S1x4096 : Shape := ⟨2, ![1, 4096]⟩
abbrev S4096 : Shape := ⟨1, ![4096]⟩
abbrev S8192x4096 : Shape := ⟨2, ![8192, 4096]⟩
abbrev S2x4096 : Shape := ⟨2, ![2, 4096]⟩
abbrev S2x1x4096 : Shape := ⟨3, ![2, 1, 4096]⟩
abbrev S2x1024x4096 : Shape := ⟨3, ![2, 1024, 4096]⟩
abbrev S2048x4096 : Shape := ⟨2, ![2048, 4096]⟩

abbrev nBuf : Space → Nat
  | .hbm => 17
  | .vmem => 0
  | .smem => 0
  | _ => 0

abbrev bufTy : (tb : Table) → Fin (tcTables nBuf tb) → BufTy
  | .hbm, ⟨0, _⟩ => ⟨S10240x11008, .bf16⟩
  | .hbm, ⟨1, _⟩ => ⟨S11008x4096, .f32⟩
  | .hbm, ⟨2, _⟩ => ⟨S10240x4096, .f32⟩
  | .hbm, ⟨3, _⟩ => ⟨S8x24576, .f32⟩
  | .hbm, ⟨4, _⟩ => ⟨S8x4096, .f32⟩
  | .hbm, ⟨5, _⟩ => ⟨S1x4096, .f32⟩
  | .hbm, ⟨6, _⟩ => ⟨S4096, .f32⟩
  | .hbm, ⟨7, _⟩ => ⟨S8192x4096, .f32⟩
  | .hbm, ⟨8, _⟩ => ⟨S2x4096, .f32⟩
  | .hbm, ⟨9, _⟩ => ⟨S2x1x4096, .f32⟩
  | .hbm, ⟨10, _⟩ => ⟨S2x1024x4096, .f32⟩
  | .hbm, ⟨11, _⟩ => ⟨S2048x4096, .f32⟩
  | .hbm, ⟨12, _⟩ => ⟨S10240x4096, .f32⟩
  | .hbm, ⟨13, _⟩ => ⟨S10240x11008, .f32⟩
  | .hbm, ⟨14, _⟩ => ⟨S10240x4096, .f32⟩
  | .hbm, ⟨15, _⟩ => ⟨S10240x4096, .f32⟩
  | .hbm, ⟨16, _⟩ => ⟨S10240x4096, .f32⟩
  | _, _ => ⟨S10240x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== OutProj.lean ====
abbrev S10240x2048 : Shape := ⟨2, ![10240, 2048]⟩
abbrev S4096x4096 : Shape := ⟨2, ![4096, 4096]⟩
abbrev S10240x4096 : Shape := ⟨2, ![10240, 4096]⟩
abbrev S8x24576 : Shape := ⟨2, ![8, 24576]⟩
abbrev S1024x2048 : Shape := ⟨2, ![1024, 2048]⟩
abbrev S4096x512 : Shape := ⟨2, ![4096, 512]⟩
abbrev S1024x512 : Shape := ⟨2, ![1024, 512]⟩
abbrev S8x512 : Shape := ⟨2, ![8, 512]⟩
abbrev S2048x512 : Shape := ⟨2, ![2048, 512]⟩
abbrev S1x512 : Shape := ⟨2, ![1, 512]⟩

abbrev nBuf : Space → Nat
  | .hbm => 7
  | .vmem => 12
  | .smem => 0
  | _ => 0

abbrev bufTy : (tb : Table) → Fin (tcTables nBuf tb) → BufTy
  | .hbm, ⟨0, _⟩ => ⟨S10240x2048, .bf16⟩
  | .hbm, ⟨1, _⟩ => ⟨S10240x2048, .bf16⟩
  | .hbm, ⟨2, _⟩ => ⟨S4096x4096, .f32⟩
  | .hbm, ⟨3, _⟩ => ⟨S10240x4096, .f32⟩
  | .hbm, ⟨4, _⟩ => ⟨S8x24576, .f32⟩
  | .hbm, ⟨5, _⟩ => ⟨S4096x4096, .bf16⟩
  | .hbm, ⟨6, _⟩ => ⟨S10240x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .f32⟩
  | .local _ .vmem, ⟨7, _⟩ => ⟨S1024x512, .f32⟩
  | .local _ .vmem, ⟨8, _⟩ => ⟨S8x512, .f32⟩
  | .local _ .vmem, ⟨9, _⟩ => ⟨S8x512, .f32⟩
  | .local _ .vmem, ⟨10, _⟩ => ⟨S1024x512, .f32⟩
  | .local _ .vmem, ⟨11, _⟩ => ⟨S1024x512, .f32⟩
  | _, _ => ⟨S10240x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 10], ![false, false]⟩

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let c8192_i32 : BitVec 32 := 8192#32
  let v1 : BitVec 1 := Scalar.cmpi .slt v0 c8192_i32
  let c0_i32_7 : BitVec 32 := 0#32
  let c1_i32_6 : BitVec 32 := 1#32
  let c8192_i32_0 : BitVec 32 := 8192#32
  let v2 : BitVec 32 := Scalar.subi v0 c8192_i32_0
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c1024_i32_1 : BitVec 32 := 1024#32
  let c0_i32_3 : BitVec 32 := 0#32
  let v9 : BitVec 1 := Scalar.cmpi .sgt c1024_i32_1 c0_i32_3
  let v10 : BitVec 32 := Scalar.extui v9
  let c0_i32_4 : BitVec 32 := 0#32
  let v11 : BitVec 1 := Scalar.cmpi .slt c1024_i32_1 c0_i32_4
  let v12 : BitVec 32 := Scalar.extui v11
  let v13 : BitVec 32 := Scalar.subi v10 v12
  let v14 : BitVec 1 := Scalar.cmpi .ne v8 v13
  let v15 : BitVec 32 := Scalar.remsi v2 c1024_i32_1
  let c0_i32_5 : BitVec 32 := 0#32
  let v16 : BitVec 1 := Scalar.cmpi .ne v15 c0_i32_5
  let v17 : BitVec 1 := Scalar.andi v14 v16
  let v3 : BitVec 32 := Scalar.divsi v2 c1024_i32_1
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v1 c0_i32_7 v20
  let v32 : Index := Scalar.indexCast v21
  let c0_17 : Index := 0#32
  ![v32.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S10240x2048 : Shape := ⟨2, ![10240, 2048]⟩
abbrev S4096x4096 : Shape := ⟨2, ![4096, 4096]⟩
abbrev S10240x4096 : Shape := ⟨2, ![10240, 4096]⟩
abbrev S8x24576 : Shape := ⟨2, ![8, 24576]⟩
abbrev S8x4096 : Shape := ⟨2, ![8, 4096]⟩
abbrev S1x4096 : Shape := ⟨2, ![1, 4096]⟩
abbrev S4096 : Shape := ⟨1, ![4096]⟩
abbrev S8192x4096 : Shape := ⟨2, ![8192, 4096]⟩
abbrev S2x4096 : Shape := ⟨2, ![2, 4096]⟩
abbrev S2x1x4096 : Shape := ⟨3, ![2, 1, 4096]⟩
abbrev S2x1024x4096 : Shape := ⟨3, ![2, 1024, 4096]⟩
abbrev S2048x4096 : Shape := ⟨2, ![2048, 4096]⟩

abbrev nBuf : Space → Nat
  | .hbm => 20
  | .vmem => 0
  | .smem => 0
  | _ => 0

abbrev bufTy : (tb : Table) → Fin (tcTables nBuf tb) → BufTy
  | .hbm, ⟨0, _⟩ => ⟨S10240x2048, .bf16⟩
  | .hbm, ⟨1, _⟩ => ⟨S10240x2048, .bf16⟩
  | .hbm, ⟨2, _⟩ => ⟨S4096x4096, .f32⟩
  | .hbm, ⟨3, _⟩ => ⟨S10240x4096, .f32⟩
  | .hbm, ⟨4, _⟩ => ⟨S8x24576, .f32⟩
  | .hbm, ⟨5, _⟩ => ⟨S8x4096, .f32⟩
  | .hbm, ⟨6, _⟩ => ⟨S10240x2048, .f32⟩
  | .hbm, ⟨7, _⟩ => ⟨S10240x2048, .f32⟩
  | .hbm, ⟨8, _⟩ => ⟨S10240x4096, .f32⟩
  | .hbm, ⟨9, _⟩ => ⟨S10240x4096, .f32⟩
  | .hbm, ⟨10, _⟩ => ⟨S1x4096, .f32⟩
  | .hbm, ⟨11, _⟩ => ⟨S4096, .f32⟩
  | .hbm, ⟨12, _⟩ => ⟨S8192x4096, .f32⟩
  | .hbm, ⟨13, _⟩ => ⟨S2x4096, .f32⟩
  | .hbm, ⟨14, _⟩ => ⟨S2x1x4096, .f32⟩
  | .hbm, ⟨15, _⟩ => ⟨S2x1024x4096, .f32⟩
  | .hbm, ⟨16, _⟩ => ⟨S2048x4096, .f32⟩
  | .hbm, ⟨17, _⟩ => ⟨S10240x4096, .f32⟩
  | .hbm, ⟨18, _⟩ => ⟨S10240x4096, .f32⟩
  | .hbm, ⟨19, _⟩ => ⟨S10240x4096, .f32⟩
  | _, _ => ⟨S10240x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Up.lean ====
abbrev S10240x4096 : Shape := ⟨2, ![10240, 4096]⟩
abbrev S4096x22016 : Shape := ⟨2, ![4096, 22016]⟩
abbrev S22016x3 : Shape := ⟨2, ![22016, 3]⟩
abbrev S22016 : Shape := ⟨1, ![22016]⟩
abbrev S3x22016 : Shape := ⟨2, ![3, 22016]⟩
abbrev S1x22016 : Shape := ⟨2, ![1, 22016]⟩
abbrev S10240x11008 : Shape := ⟨2, ![10240, 11008]⟩
abbrev S1024x4096 : Shape := ⟨2, ![1024, 4096]⟩
abbrev S4096x256 : Shape := ⟨2, ![4096, 256]⟩
abbrev S3x256 : Shape := ⟨2, ![3, 256]⟩
abbrev S1x256 : Shape := ⟨2, ![1, 256]⟩
abbrev S1024x256 : Shape := ⟨2, ![1024, 256]⟩
abbrev S1024x1 : Shape := ⟨2, ![1024, 1]⟩

abbrev nBuf : Space → Nat
  | .hbm => 8
  | .vmem => 16
  | .smem => 0
  | _ => 0

abbrev bufTy : (tb : Table) → Fin (tcTables nBuf tb) → BufTy
  | .hbm, ⟨0, _⟩ => ⟨S10240x4096, .bf16⟩
  | .hbm, ⟨1, _⟩ => ⟨S4096x22016, .f32⟩
  | .hbm, ⟨2, _⟩ => ⟨S22016x3, .f32⟩
  | .hbm, ⟨3, _⟩ => ⟨S22016, .f32⟩
  | .hbm, ⟨4, _⟩ => ⟨S4096x22016, .bf16⟩
  | .hbm, ⟨5, _⟩ => ⟨S3x22016, .f32⟩
  | .hbm, ⟨6, _⟩ => ⟨S1x22016, .f32⟩
  | .hbm, ⟨7, _⟩ => ⟨S10240x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1024x256, .bf16⟩
  | .local _ .vmem, ⟨15, _⟩ => ⟨S1024x256, .bf16⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![43, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S10240x4096 : Shape := ⟨2, ![10240, 4096]⟩
abbrev S4096x22016 : Shape := ⟨2, ![4096, 22016]⟩
abbrev S22016x3 : Shape := ⟨2, ![22016, 3]⟩
abbrev S22016 : Shape := ⟨1, ![22016]⟩
abbrev S8192x4096 : Shape := ⟨2, ![8192, 4096]⟩
abbrev S32x256x4096 : Shape := ⟨3, ![32, 256, 4096]⟩
abbrev S32x256x22016 : Shape := ⟨3, ![32, 256, 22016]⟩
abbrev S_ : Shape := ⟨0, ![]⟩
abbrev S32x258x22016 : Shape := ⟨3, ![32, 258, 22016]⟩
abbrev S22016x1 : Shape := ⟨2, ![22016, 1]⟩
abbrev S1x1x22016 : Shape := ⟨3, ![1, 1, 22016]⟩
abbrev S32x256x11008 : Shape := ⟨3, ![32, 256, 11008]⟩
abbrev S8192x11008 : Shape := ⟨2, ![8192, 11008]⟩
abbrev S2048x4096 : Shape := ⟨2, ![2048, 4096]⟩
abbrev S2x1024x4096 : Shape := ⟨3, ![2, 1024, 4096]⟩
abbrev S2x1024x22016 : Shape := ⟨3, ![2, 1024, 22016]⟩
abbrev S2x1026x22016 : Shape := ⟨3, ![2, 1026, 22016]⟩
abbrev S2x1024x11008 : Shape := ⟨3, ![2, 1024, 11008]⟩
abbrev S2048x11008 : Shape := ⟨2, ![2048, 11008]⟩
abbrev S10240x11008 : Shape := ⟨2, ![10240, 11008]⟩

abbrev nBuf : Space → Nat
  | .hbm => 91
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S4096x22016, .f32⟩
  | .hbm, ⟨2, _⟩ => ⟨S22016x3, .f32⟩
  | .hbm, ⟨3, _⟩ => ⟨S22016, .f32⟩
  | .hbm, ⟨4, _⟩ => ⟨S10240x4096, .f32⟩
  | .hbm, ⟨5, _⟩ => ⟨S8192x4096, .f32⟩
  | .hbm, ⟨6, _⟩ => ⟨S32x256x4096, .f32⟩
  | .hbm, ⟨7, _⟩ => ⟨S32x256x22016, .f32⟩
  | .hbm, ⟨8, _⟩ => ⟨S_, .i32⟩
  | .hbm, ⟨9, _⟩ => ⟨S_, .f32⟩
  | .hbm, ⟨10, _⟩ => ⟨S32x258x22016, .f32⟩
  | .hbm, ⟨11, _⟩ => ⟨S32x256x22016, .f32⟩
  | .hbm, ⟨12, _⟩ => ⟨S22016x1, .f32⟩
  | .hbm, ⟨13, _⟩ => ⟨S22016, .f32⟩
  | .hbm, ⟨14, _⟩ => ⟨S1x1x22016, .f32⟩
  | .hbm, ⟨15, _⟩ => ⟨S32x256x22016, .f32⟩
  | .hbm, ⟨16, _⟩ => ⟨S32x256x22016, .f32⟩
  | .hbm, ⟨17, _⟩ => ⟨S32x256x22016, .f32⟩
  | .hbm, ⟨18, _⟩ => ⟨S22016x1, .f32⟩
  | .hbm, ⟨19, _⟩ => ⟨S22016, .f32⟩
  | .hbm, ⟨20, _⟩ => ⟨S1x1x22016, .f32⟩
  | .hbm, ⟨21, _⟩ => ⟨S32x256x22016, .f32⟩
  | .hbm, ⟨22, _⟩ => ⟨S32x256x22016, .f32⟩
  | .hbm, ⟨23, _⟩ => ⟨S32x256x22016, .f32⟩
  | .hbm, ⟨24, _⟩ => ⟨S32x256x22016, .f32⟩
  | .hbm, ⟨25, _⟩ => ⟨S22016x1, .f32⟩
  | .hbm, ⟨26, _⟩ => ⟨S22016, .f32⟩
  | .hbm, ⟨27, _⟩ => ⟨S1x1x22016, .f32⟩
  | .hbm, ⟨28, _⟩ => ⟨S32x256x22016, .f32⟩
  | .hbm, ⟨29, _⟩ => ⟨S32x256x22016, .f32⟩
  | .hbm, ⟨30, _⟩ => ⟨S32x256x22016, .f32⟩
  | .hbm, ⟨31, _⟩ => ⟨S1x1x22016, .f32⟩
  | .hbm, ⟨32, _⟩ => ⟨S32x256x22016, .f32⟩
  | .hbm, ⟨33, _⟩ => ⟨S32x256x22016, .f32⟩
  | .hbm, ⟨34, _⟩ => ⟨S32x256x11008, .f32⟩
  | .hbm, ⟨35, _⟩ => ⟨S32x256x11008, .f32⟩
  | .hbm, ⟨36, _⟩ => ⟨S32x256x11008, .f32⟩
  | .hbm, ⟨37, _⟩ => ⟨S_, .f32⟩
  | .hbm, ⟨38, _⟩ => ⟨S32x256x11008, .f32⟩
  | .hbm, ⟨39, _⟩ => ⟨S32x256x11008, .f32⟩
  | .hbm, ⟨40, _⟩ => ⟨S_, .f32⟩
  | .hbm, ⟨41, _⟩ => ⟨S32x256x11008, .f32⟩
  | .hbm, ⟨42, _⟩ => ⟨S32x256x11008, .f32⟩
  | .hbm, ⟨43, _⟩ => ⟨S32x256x11008, .f32⟩
  | .hbm, ⟨44, _⟩ => ⟨S32x256x11008, .f32⟩
  | .hbm, ⟨45, _⟩ => ⟨S32x256x11008, .f32⟩
  | .hbm, ⟨46, _⟩ => ⟨S8192x11008, .f32⟩
  | .hbm, ⟨47, _⟩ => ⟨S2048x4096, .f32⟩
  | .hbm, ⟨48, _⟩ => ⟨S2x1024x4096, .f32⟩
  | .hbm, ⟨49, _⟩ => ⟨S2x1024x22016, .f32⟩
  | .hbm, ⟨50, _⟩ => ⟨S_, .i32⟩
  | .hbm, ⟨51, _⟩ => ⟨S_, .f32⟩
  | .hbm, ⟨52, _⟩ => ⟨S2x1026x22016, .f32⟩
  | .hbm, ⟨53, _⟩ => ⟨S2x1024x22016, .f32⟩
  | .hbm, ⟨54, _⟩ => ⟨S22016x1, .f32⟩
  | .hbm, ⟨55, _⟩ => ⟨S22016, .f32⟩
  | .hbm, ⟨56, _⟩ => ⟨S1x1x22016, .f32⟩
  | .hbm, ⟨57, _⟩ => ⟨S2x1024x22016, .f32⟩
  | .hbm, ⟨58, _⟩ => ⟨S2x1024x22016, .f32⟩
  | .hbm, ⟨59, _⟩ => ⟨S2x1024x22016, .f32⟩
  | .hbm, ⟨60, _⟩ => ⟨S22016x1, .f32⟩
  | .hbm, ⟨61, _⟩ => ⟨S22016, .f32⟩
  | .hbm, ⟨62, _⟩ => ⟨S1x1x22016, .f32⟩
  | .hbm, ⟨63, _⟩ => ⟨S2x1024x22016, .f32⟩
  | .hbm, ⟨64, _⟩ => ⟨S2x1024x22016, .f32⟩
  | .hbm, ⟨65, _⟩ => ⟨S2x1024x22016, .f32⟩
  | .hbm, ⟨66, _⟩ => ⟨S2x1024x22016, .f32⟩
  | .hbm, ⟨67, _⟩ => ⟨S22016x1, .f32⟩
  | .hbm, ⟨68, _⟩ => ⟨S22016, .f32⟩
  | .hbm, ⟨69, _⟩ => ⟨S1x1x22016, .f32⟩
  | .hbm, ⟨70, _⟩ => ⟨S2x1024x22016, .f32⟩
  | .hbm, ⟨71, _⟩ => ⟨S2x1024x22016, .f32⟩
  | .hbm, ⟨72, _⟩ => ⟨S2x1024x22016, .f32⟩
  | .hbm, ⟨73, _⟩ => ⟨S1x1x22016, .f32⟩
  | .hbm, ⟨74, _⟩ => ⟨S2x1024x22016, .f32⟩
  | .hbm, ⟨75, _⟩ => ⟨S2x1024x22016, .f32⟩
  | .hbm, ⟨76, _⟩ => ⟨S2x1024x11008, .f32⟩
  | .hbm, ⟨77, _⟩ => ⟨S2x1024x11008, .f32⟩
  | .hbm, ⟨78, _⟩ => ⟨S2x1024x11008, .f32⟩
  | .hbm, ⟨79, _⟩ => ⟨S_, .f32⟩
  | .hbm, ⟨80, _⟩ => ⟨S2x1024x11008, .f32⟩
  | .hbm, ⟨81, _⟩ => ⟨S2x1024x11008, .f32⟩
  | .hbm, ⟨82, _⟩ => ⟨S_, .f32⟩
  | .hbm, ⟨83, _⟩ => ⟨S2x1024x11008, .f32⟩
  | .hbm, ⟨84, _⟩ => ⟨S2x1024x11008, .f32⟩
  | .hbm, ⟨85, _⟩ => ⟨S2x1024x11008, .f32⟩
  | .hbm, ⟨86, _⟩ => ⟨S2x1024x11008, .f32⟩
  | .hbm, ⟨87, _⟩ => ⟨S2x1024x11008, .f32⟩
  | .hbm, ⟨88, _⟩ => ⟨S2048x11008, .f32⟩
  | .hbm, ⟨89, _⟩ => ⟨S10240x11008, .f32⟩
  | .hbm, ⟨90, _⟩ => ⟨S10240x11008, .bf16⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_0 : Ref sig .tc := ⟨.hbm, 50, rfl⟩
abbrev main_call2_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_call3_v0 : Ref sig .tc := ⟨.hbm, 77, rfl⟩
abbrev main_call3_v1 : Ref sig .tc := ⟨.hbm, 78, rfl⟩
abbrev main_call3_cst : Ref sig .tc := ⟨.hbm, 79, rfl⟩
abbrev main_call3_v2 : Ref sig .tc := ⟨.hbm, 80, rfl⟩
abbrev main_call3_v3 : Ref sig .tc := ⟨.hbm, 81, rfl⟩
abbrev main_call3_cst_0 : Ref sig .tc := ⟨.hbm, 82, rfl⟩
abbrev main_call3_v4 : Ref sig .tc := ⟨.hbm, 83, rfl⟩
abbrev main_call3_v5 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Lat.lean ====
abbrev S10240x9216 : Shape := ⟨2, ![10240, 9216]⟩
abbrev S2x512x4x128 : Shape := ⟨4, ![2, 512, 4, 128]⟩
abbrev S16 : Shape := ⟨1, ![16]⟩
abbrev S2048 : Shape := ⟨1, ![2048]⟩
abbrev S2x512x512 : Shape := ⟨3, ![2, 512, 512]⟩
abbrev S1024 : Shape := ⟨1, ![1024]⟩
abbrev S_ : Shape := ⟨0, ![]⟩
abbrev S32 : Shape := ⟨1, ![32]⟩
abbrev S128 : Shape := ⟨1, ![128]⟩
abbrev S1x128 : Shape := ⟨2, ![1, 128]⟩
abbrev S1024x1 : Shape := ⟨2, ![1024, 1]⟩
abbrev S1024x128 : Shape := ⟨2, ![1024, 128]⟩
abbrev S128x1 : Shape := ⟨2, ![128, 1]⟩
abbrev S1x2048 : Shape := ⟨2, ![1, 2048]⟩
abbrev S2048x2048 : Shape := ⟨2, ![2048, 2048]⟩
abbrev S128x2048 : Shape := ⟨2, ![128, 2048]⟩
abbrev S1024x512 : Shape := ⟨2, ![1024, 512]⟩
abbrev S1x512x512 : Shape := ⟨3, ![1, 512, 512]⟩
abbrev S128x128 : Shape := ⟨2, ![128, 128]⟩
abbrev S384x128 : Shape := ⟨2, ![384, 128]⟩
abbrev S1x384 : Shape := ⟨2, ![1, 384]⟩
abbrev S128x384 : Shape := ⟨2, ![128, 384]⟩
abbrev S1x512x128 : Shape := ⟨3, ![1, 512, 128]⟩
abbrev S512x128 : Shape := ⟨2, ![512, 128]⟩
abbrev S128x512 : Shape := ⟨2, ![128, 512]⟩
abbrev S1 : Shape := ⟨1, ![1]⟩

abbrev nBuf : Space → Nat
  | .hbm => 144
  | .vmem => 17
  | .smem => 1
  | _ => 0

abbrev hbmTy0_0 (i : Nat) : BufTy := match i % 128 with
  | 0 => ⟨S10240x9216, .f32⟩
  | 1 => ⟨S2x512x4x128, .f32⟩
  | 2 => ⟨S2x512x4x128, .f32⟩
  | 3 => ⟨S16, .f32⟩
  | 4 => ⟨S2048, .f32⟩
  | 5 => ⟨S2x512x512, .f32⟩
  | 6 => ⟨S2x512x512, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024, .f32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S1024, .i32⟩
  | 34 => ⟨S1024, .i32⟩
  | 35 => ⟨S_, .i32⟩
  | 36 => ⟨S1024, .i32⟩
  | 37 => ⟨S1024, .i1⟩
  | 38 => ⟨S_, .i32⟩
  | 39 => ⟨S1024, .i32⟩
  | 40 => ⟨S1024, .i1⟩
  | 41 => ⟨S_, .i32⟩
  | 42 => ⟨S_, .i1⟩
  | 43 => ⟨S1024, .i1⟩
  | 44 => ⟨S1024, .i1⟩
  | 45 => ⟨S1024, .i1⟩
  | 46 => ⟨S1024, .i32⟩
  | 47 => ⟨S1024, .i32⟩
  | 48 => ⟨S1024, .i32⟩
  | 49 => ⟨S1024, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S128, .i32⟩
  | 59 => ⟨S_, .i32⟩
  | 60 => ⟨S128, .i32⟩
  | 61 => ⟨S128, .i1⟩
  | 62 => ⟨S1x128, .i1⟩
  | 63 => ⟨S1024x1, .f32⟩
  | 64 => ⟨S1024x1, .f32⟩
  | 65 => ⟨S1024x128, .i1⟩
  | 66 => ⟨S1024x128, .f32⟩
  | 67 => ⟨S1024x128, .f32⟩
  | 68 => ⟨S1024x128, .f32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S128, .i32⟩
  | 76 => ⟨S128, .i32⟩
  | 77 => ⟨S_, .i32⟩
  | 78 => ⟨S128, .i32⟩
  | 79 => ⟨S128, .i1⟩
  | 80 => ⟨S_, .i32⟩
  | 81 => ⟨S128, .i32⟩
  | 82 => ⟨S128, .i1⟩
  | 83 => ⟨S_, .i32⟩
  | 84 => ⟨S_, .i1⟩
  | 85 => ⟨S128, .i1⟩
  | 86 => ⟨S128, .i1⟩
  | 87 => ⟨S128, .i1⟩
  | 88 => ⟨S128, .i32⟩
  | 89 => ⟨S128, .i32⟩
  | 90 => ⟨S128, .i32⟩
  | 91 => ⟨S_, .i32⟩
  | 92 => ⟨S128, .i32⟩
  | 93 => ⟨S128, .i1⟩
  | 94 => ⟨S_, .i32⟩
  | 95 => ⟨S128, .i32⟩
  | 96 => ⟨S128, .i32⟩
  | 97 => ⟨S128, .i32⟩
  | 98 => ⟨S128x1, .i32⟩
  | 99 => ⟨S128, .f32⟩
  | 100 => ⟨S1x128, .f32⟩
  | 101 => ⟨S1024x128, .f32⟩
  | 102 => ⟨S1024x128, .f32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S128, .i32⟩
  | 110 => ⟨S128, .i32⟩
  | 111 => ⟨S_, .i32⟩
  | 112 => ⟨S128, .i32⟩
  | 113 => ⟨S128, .i1⟩
  | 114 => ⟨S_, .i32⟩
  | 115 => ⟨S128, .i32⟩
  | 116 => ⟨S128, .i1⟩
  | 117 => ⟨S_, .i32⟩
  | 118 => ⟨S_, .i1⟩
  | 119 => ⟨S128, .i1⟩
  | 120 => ⟨S128, .i1⟩
  | 121 => ⟨S128, .i1⟩
  | 122 => ⟨S128, .i32⟩
  | 123 => ⟨S128, .i32⟩
  | 124 => ⟨S128, .i32⟩
  | 125 => ⟨S_, .i32⟩
  | 126 => ⟨S128, .i32⟩
  | 127 => ⟨S128, .i1⟩
  | _ => ⟨S10240x9216, .f32⟩

abbrev hbmTy0_1 (i : Nat) : BufTy := match i % 128 with
  | 0 => ⟨S1x128, .i1⟩
  | 1 => ⟨S1024x128, .f32⟩
  | 2 => ⟨S1024x128, .f32⟩
  | 3 => ⟨S1024x128, .f32⟩
  | 4 => ⟨S_, .f32⟩
  | 5 => ⟨S_, .f32⟩
  | 6 => ⟨S1024x128, .i1⟩
  | 7 => ⟨S1024x128, .f32⟩
  | 8 => ⟨S1024x128, .f32⟩
  | 9 => ⟨S_, .f32⟩
  | 10 => ⟨S_, .f32⟩
  | 11 => ⟨S1024x128, .i1⟩
  | 12 => ⟨S1024x128, .f32⟩
  | 13 => ⟨S1024x128, .f32⟩
  | 14 => ⟨S1x2048, .f32⟩
  | 15 => ⟨S2048x2048, .bf16⟩
  | _ => ⟨S10240x9216, .f32⟩

abbrev hbmTy (i : Nat) : BufTy := match i / 128 with
  | 0 => hbmTy0_0 i
  | 1 => hbmTy0_1 i
  | _ => ⟨S10240x9216, .f32⟩

abbrev bufTy : (tb : Table) → Fin (tcTables nBuf tb) → BufTy
  | .hbm, ⟨i, _⟩ => hbmTy i
  | .local _ .vmem, ⟨0, _⟩ => ⟨S128x2048, .f32⟩
  | .local _ .vmem, ⟨1, _⟩ => ⟨S128x2048, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x2048, .f32⟩
  | .local _ .vmem, ⟨14, _⟩ => ⟨S128x2048, .bf16⟩
  | .local _ .vmem, ⟨15, _⟩ => ⟨S128x2048, .bf16⟩
  | .local _ .vmem, ⟨16, _⟩ => ⟨S128x2048, .f32⟩
  | .local _ .smem, ⟨0, _⟩ => ⟨S16, .f32⟩
  | _, _ => ⟨S10240x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_cst : Ref sig .tc := ⟨.hbm, 52, rfl⟩
abbrev main_v9 : Ref sig .tc := ⟨.hbm, 53, rfl⟩
abbrev main_v10 : Ref sig .tc := ⟨.hbm, 54, rfl⟩
abbrev main_cst_1 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_c_2 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v19 : Ref sig .tc := ⟨.hbm, 68, rfl⟩
abbrev main_c_3 : Ref sig .tc := ⟨.hbm, 69, rfl⟩
abbrev main_call3_v0 : Ref sig .tc := ⟨.hbm, 70, rfl⟩
abbrev main_call3_c : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_c_1 : Ref sig .tc := ⟨.hbm, 77, rfl⟩
abbrev main_call3_v5 : Ref sig .tc := ⟨.hbm, 78, rfl⟩
abbrev main_call3_v6 : Ref sig .tc := ⟨.hbm, 79, rfl⟩
abbrev main_call3_c_2 : Ref sig .tc := ⟨.hbm, 80, rfl⟩
abbrev main_call3_v7 : Ref sig .tc := ⟨.hbm, 81, rfl⟩
abbrev main_call3_v8 : Ref sig .tc := ⟨.hbm, 82, rfl⟩
abbrev main_call3_c_3 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_v12 : Ref sig .tc := ⟨.hbm, 87, rfl⟩
abbrev main_call3_v13 : Ref sig .tc := ⟨.hbm, 88, rfl⟩
abbrev main_call3_v14 : Ref sig .tc := ⟨.hbm, 89, rfl⟩
abbrev main_v20 : Ref sig .tc := ⟨.hbm, 90, rfl⟩
abbrev main_c_4 : Ref sig .tc := ⟨.hbm, 91, rfl⟩
abbrev main_v21 : Ref sig .tc := ⟨.hbm, 92, rfl⟩
abbrev main_v22 : Ref sig .tc := ⟨.hbm, 93, rfl⟩
abbrev main_c_5 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_c_6 : Ref sig .tc := ⟨.hbm, 103, rfl⟩
abbrev main_call4_v0 : Ref sig .tc := ⟨.hbm, 104, rfl⟩
abbrev main_call4_c : Ref sig .tc := ⟨.hbm, 105, rfl⟩
abbrev main_call4_v1 : Ref sig .tc := ⟨.hbm, 106, rfl⟩
abbrev main_call4_c_0 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_c_1 : Ref sig .tc := ⟨.hbm, 111, rfl⟩
abbrev main_call4_v5 : Ref sig .tc := ⟨.hbm, 112, rfl⟩
abbrev main_call4_v6 : Ref sig .tc := ⟨.hbm, 113, rfl⟩
abbrev main_call4_c_2 : Ref sig .tc := ⟨.hbm, 114, rfl⟩
abbrev main_call4_v7 : Ref sig .tc := ⟨.hbm, 115, rfl⟩
abbrev main_call4_v8 : Ref sig .tc := ⟨.hbm, 116, rfl⟩
abbrev main_call4_c_3 : Ref sig .tc := ⟨.hbm, 117, rfl⟩
abbrev main_call4_v9 : Ref sig .tc := ⟨.hbm, 118, rfl⟩
abbrev main_call4_v10 : Ref sig .tc := ⟨.hbm, 119, rfl⟩
abbrev main_call4_v11 : Ref sig .tc := ⟨.hbm, 120, rfl⟩
abbrev main_call4_v12 : Ref sig .tc := ⟨.hbm, 121, rfl⟩
abbrev main_call4_v13 : Ref sig .tc := ⟨.hbm, 122, rfl⟩
abbrev main_call4_v14 : Ref sig .tc := ⟨.hbm, 123, rfl⟩
abbrev main_v31 : Ref sig .tc := ⟨.hbm, 124, rfl⟩
abbrev main_c_7 : Ref sig .tc := ⟨.hbm, 125, rfl⟩
abbrev main_v32 : Ref sig .tc := ⟨.hbm, 126, rfl⟩
abbrev main_v33 : Ref sig .tc := ⟨.hbm, 127, rfl⟩
abbrev main_v34 : Ref sig .tc := ⟨.hbm, 128, rfl⟩
abbrev main_v35 : Ref sig .tc := ⟨.hbm, 129, rfl⟩
abbrev main_v36 : Ref sig .tc := ⟨.hbm, 130, rfl⟩
abbrev main_v37 : Ref sig .tc := ⟨.hbm, 131, rfl⟩
abbrev main_cst_8 : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_v38 : Ref sig .tc := ⟨.hbm, 136, rfl⟩
abbrev main_cst_9 : Ref sig .tc := ⟨.hbm, 137, rfl⟩
abbrev main_call6_v0 : Ref sig .tc := ⟨.hbm, 138, rfl⟩
abbrev main_call6_v1 : Ref sig .tc := ⟨.hbm, 139, rfl⟩
abbrev main_call6_v2 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_mult2 (i : grid0.Coords) : BitVec 32 :=
  let c640_i32 : BitVec 32 := 640#32
  let c0_i32 : BitVec 32 := 0#32
  let arg1 : BitVec 32 := BitVec.ofNat 32 (i 1).val
  let c1_i32 : BitVec 32 := 1#32
  let v2 : BitVec 32 := Scalar.subi arg1 c1_i32
  let c128_i32_0 : BitVec 32 := 128#32
  let v3 : BitVec 32 := Scalar.muli v2 c128_i32_0
  let v4 : BitVec 32 := Scalar.maxsi c0_i32 v3
  let v5 : BitVec 32 := Scalar.minsi c640_i32 v4
  v5
def k0_off1 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v7 : Index := Scalar.indexCast v1
  let c0 : Index := 0#32
  ![v7.toNat, 0]
def k0_off2 (i : grid0.Coords) : Fin 2 → Nat :=
  let c640_i32 : BitVec 32 := 640#32
  let c0_i32 : BitVec 32 := 0#32
  let arg1 : BitVec 32 := BitVec.ofNat 32 (i 1).val
  let c1_i32 : BitVec 32 := 1#32
  let v2 : BitVec 32 := Scalar.subi arg1 c1_i32
  let c128_i32_0 : BitVec 32 := 128#32
  let v3 : BitVec 32 := Scalar.muli v2 c128_i32_0
  let v4 : BitVec 32 := Scalar.maxsi c0_i32 v3
  let v5 : BitVec 32 := Scalar.minsi c640_i32 v4
  let v6 : BitVec 32 := v5
  let v16 : Index := Scalar.indexCast v6
  let c0_3 : Index := 0#32
  ![v16.toNat, 0]
def k0_off3 (i : grid0.Coords) : Fin 2 → Nat :=
  let c640_i32 : BitVec 32 := 640#32
  let c0_i32 : BitVec 32 := 0#32
  let arg1 : BitVec 32 := BitVec.ofNat 32 (i 1).val
  let c1_i32 : BitVec 32 := 1#32
  let v2 : BitVec 32 := Scalar.subi arg1 c1_i32
  let c128_i32_0 : BitVec 32 := 128#32
  let v3 : BitVec 32 := Scalar.muli v2 c128_i32_0
  let v4 : BitVec 32 := Scalar.maxsi c0_i32 v3
  let v5 : BitVec 32 := Scalar.minsi c640_i32 v4
  let v6 : BitVec 32 := v5
  let v37 : Index := Scalar.indexCast v6
  let c0_7 : Index := 0#32
  ![v37.toNat, 0]
def k0_off4 (i : grid0.Coords) : Fin 2 → Nat :=
  let c640_i32 : BitVec 32 := 640#32
  let c0_i32 : BitVec 32 := 0#32
  let arg1 : BitVec 32 := BitVec.ofNat 32 (i 1).val
  let c1_i32 : BitVec 32 := 1#32
  let v2 : BitVec 32 := Scalar.subi arg1 c1_i32
  let c128_i32_0 : BitVec 32 := 128#32
  let v3 : BitVec 32 := Scalar.muli v2 c128_i32_0
  let v4 : BitVec 32 := Scalar.maxsi c0_i32 v3
  let v5 : BitVec 32 := Scalar.minsi c640_i32 v4
  let v6 : BitVec 32 := v5
  let v264 : Index := Scalar.indexCast v6
  let c128_80 : Index := 128#32
  ![v264.toNat, 128]
def k0_off5 (i : grid0.Coords) : Fin 2 → Nat :=
  let c640_i32 : BitVec 32 := 640#32
  let c0_i32 : BitVec 32 := 0#32
  let arg1 : BitVec 32 := BitVec.ofNat 32 (i 1).val
  let c1_i32 : BitVec 32 := 1#32
  let v2 : BitVec 32 := Scalar.subi arg1 c1_i32
  let c128_i32_0 : BitVec 32 := 128#32
  let v3 : BitVec 32 := Scalar.muli v2 c128_i32_0
  let v4 : BitVec 32 := Scalar.maxsi c0_i32 v3
  let v5 : BitVec 32 := Scalar.minsi c640_i32 v4
  let v6 : BitVec 32 := v5
  let v491 : Index := Scalar.indexCast v6
  let c256_154 : Index := 256#32
  ![v491.toNat, 256]
def k0_off6 (i : grid0.Coords) : Fin 2 → Nat :=
  let c640_i32 : BitVec 32 := 640#32
  let c0_i32 : BitVec 32 := 0#32
  let arg1 : BitVec 32 := BitVec.ofNat 32 (i 1).val
  let c1_i32 : BitVec 32 := 1#32
  let v2 : BitVec 32 := Scalar.subi arg1 c1_i32
  let c128_i32_0 : BitVec 32 := 128#32
  let v3 : BitVec 32 := Scalar.muli v2 c128_i32_0
  let v4 : BitVec 32 := Scalar.maxsi c0_i32 v3
  let v5 : BitVec 32 := Scalar.minsi c640_i32 v4
  let v6 : BitVec 32 := v5
  let v718 : Index := Scalar.indexCast v6
  let c384_228 : Index := 384#32
  ![v718.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c64_i32 : BitVec 32 := 64#32
  let v1 : BitVec 32 := Scalar.addi c64_i32 v0
  let v2 : BitVec 32 := Scalar.addi v1 arg1
  let c3_i32 : BitVec 32 := 3#32
  let c0_i32 : BitVec 32 := 0#32
  ![v2.toNat, c3_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c16_i32 : BitVec 32 := 16#32
  let c0_i32 : BitVec 32 := 0#32
  ![v0.toNat, c16_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c17_i32 : BitVec 32 := 17#32
  let c0_i32 : BitVec 32 := 0#32
  ![v0.toNat, c17_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== LatIdeal.lean ====
variable {F : FTy → Type} [FloatOps F] [Named F]
def κ : String → Option EReal := fun
  | "attn_scale" => some (((Real.sqrt 128)⁻¹ : ℝ) : EReal)
  | "mask" => some ⊥
  | _ => none
-- ==== LatRefIdeal.lean ====
abbrev S10240x9216 : Shape := ⟨2, ![10240, 9216]⟩
abbrev S2x512x4x128 : Shape := ⟨4, ![2, 512, 4, 128]⟩
abbrev S16 : Shape := ⟨1, ![16]⟩
abbrev S2048 : Shape := ⟨1, ![2048]⟩
abbrev S2048x9216 : Shape := ⟨2, ![2048, 9216]⟩
abbrev S2x1024x9216 : Shape := ⟨3, ![2, 1024, 9216]⟩
abbrev S2x1024x2048 : Shape := ⟨3, ![2, 1024, 2048]⟩
abbrev S2x1024x16x128 : Shape := ⟨4, ![2, 1024, 16, 128]⟩
abbrev S1024 : Shape := ⟨1, ![1024]⟩
abbrev S_ : Shape := ⟨0, ![]⟩
abbrev S32 : Shape := ⟨1, ![32]⟩
abbrev S2x1024x16x64 : Shape := ⟨4, ![2, 1024, 16, 64]⟩
abbrev S1024x1 : Shape := ⟨2, ![1024, 1]⟩
abbrev S1x32 : Shape := ⟨2, ![1, 32]⟩
abbrev S1024x32 : Shape := ⟨2, ![1024, 32]⟩
abbrev S1x1024x1x32 : Shape := ⟨4, ![1, 1024, 1, 32]⟩
abbrev S2x1024x16x32 : Shape := ⟨4, ![2, 1024, 16, 32]⟩
abbrev S2x1024x4x4x128 : Shape := ⟨5, ![2, 1024, 4, 4, 128]⟩
abbrev S2x1024x512 : Shape := ⟨3, ![2, 1024, 512]⟩
abbrev S2x1024x4x128 : Shape := ⟨4, ![2, 1024, 4, 128]⟩
abbrev S2x1024x4x64 : Shape := ⟨4, ![2, 1024, 4, 64]⟩
abbrev S2x1024x4x32 : Shape := ⟨4, ![2, 1024, 4, 32]⟩
abbrev S1x1024 : Shape := ⟨2, ![1, 1024]⟩
abbrev S1024x1024 : Shape := ⟨2, ![1024, 1024]⟩
abbrev S2x4x1024x1024x4 : Shape := ⟨5, ![2, 4, 1024, 1024, 4]⟩
abbrev S2x4x4x1024x1024 : Shape := ⟨5, ![2, 4, 4, 1024, 1024]⟩
abbrev S2x4x512x1024x4 : Shape := ⟨5, ![2, 4, 512, 1024, 4]⟩
abbrev S2x4x4x1024x512 : Shape := ⟨5, ![2, 4, 4, 1024, 512]⟩
abbrev S2x4x4x1024x1536 : Shape := ⟨5, ![2, 4, 4, 1024, 1536]⟩
abbrev S4x4x1x1 : Shape := ⟨4, ![4, 4, 1, 1]⟩
abbrev S2x4x4x1024x1 : Shape := ⟨5, ![2, 4, 4, 1024, 1]⟩
abbrev S2x4x4x1024x1537 : Shape := ⟨5, ![2, 4, 4, 1024, 1537]⟩
abbrev S2x4x4x1024 : Shape := ⟨4, ![2, 4, 4, 1024]⟩
abbrev S2x4x128x4x1024 : Shape := ⟨5, ![2, 4, 128, 4, 1024]⟩
abbrev S2048x2048 : Shape := ⟨2, ![2048, 2048]⟩
abbrev S2048x1 : Shape := ⟨2, ![2048, 1]⟩
abbrev S1x2048 : Shape := ⟨2, ![1, 2048]⟩

abbrev nBuf : Space → Nat
  | .hbm => 281
  | .vmem => 0
  | .smem => 0
  | _ => 0

abbrev hbmTy0_0 (i : Nat) : BufTy := match i % 128 with
  | 0 => ⟨S10240x9216, .f32⟩
  | 1 => ⟨S2x512x4x128, .f32⟩
  | 2 => ⟨S2x512x4x128, .f32⟩
  | 3 => ⟨S16, .f32⟩
  | 4 => ⟨S2048, .f32⟩
  | 5 => ⟨S2048x9216, .f32⟩
  | 6 => ⟨S2x1024x9216, .f32⟩
  | 7 => ⟨S2x1024x2048, .f32⟩
  | 8 => ⟨S2x1024x16x128, .f32⟩
  | 9 => ⟨S1024, .i32⟩
  | 10 => ⟨S_, .i32⟩
  | 11 => ⟨S_, .i32⟩
  | 12 => ⟨S1024, .i32⟩
  | 13 => ⟨S1024, .i32⟩
  | 14 => ⟨S1024, .i32⟩
  | 15 => ⟨S_, .i32⟩
  | 16 => ⟨S1024, .i32⟩
  | 17 => ⟨S1024, .i1⟩
  | 18 => ⟨S1024, .i32⟩
  | 19 => ⟨S1024, .i32⟩
  | 20 => ⟨S_, .i32⟩
  | 21 => ⟨S1024, .i32⟩
  | 22 => ⟨S1024, .i1⟩
  | 23 => ⟨S1024, .i1⟩
  | 24 => ⟨S_, .i32⟩
  | 25 => ⟨S1024, .i32⟩
  | 26 => ⟨S1024, .i32⟩
  | 27 => ⟨S1024, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S1024, .i32⟩
  | 35 => ⟨S1024, .i32⟩
  | 36 => ⟨S_, .i32⟩
  | 37 => ⟨S1024, .i32⟩
  | 38 => ⟨S1024, .i1⟩
  | 39 => ⟨S_, .i32⟩
  | 40 => ⟨S1024, .i32⟩
  | 41 => ⟨S1024, .i1⟩
  | 42 => ⟨S_, .i32⟩
  | 43 => ⟨S_, .i1⟩
  | 44 => ⟨S1024, .i1⟩
  | 45 => ⟨S1024, .i1⟩
  | 46 => ⟨S1024, .i1⟩
  | 47 => ⟨S1024, .i32⟩
  | 48 => ⟨S1024, .i32⟩
  | 49 => ⟨S1024, .i32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S2x1024x16x64, .f32⟩
  | 59 => ⟨S1024, .f32⟩
  | 60 => ⟨S1024x1, .f32⟩
  | 61 => ⟨S1x32, .f32⟩
  | 62 => ⟨S1024x32, .f32⟩
  | 63 => ⟨S1024x32, .f32⟩
  | 64 => ⟨S1024x32, .f32⟩
  | 65 => ⟨S1024x32, .f32⟩
  | 66 => ⟨S1x1024x1x32, .f32⟩
  | 67 => ⟨S1024x32, .f32⟩
  | 68 => ⟨S1x1024x1x32, .f32⟩
  | 69 => ⟨S2x1024x16x32, .f32⟩
  | 70 => ⟨S2x1024x16x32, .f32⟩
  | 71 => ⟨S2x1024x16x32, .f32⟩
  | 72 => ⟨S2x1024x16x32, .f32⟩
  | 73 => ⟨S2x1024x16x32, .f32⟩
  | 74 => ⟨S2x1024x16x32, .f32⟩
  | 75 => ⟨S2x1024x16x32, .f32⟩
  | 76 => ⟨S2x1024x16x32, .f32⟩
  | 77 => ⟨S2x1024x16x32, .f32⟩
  | 78 => ⟨S2x1024x16x32, .f32⟩
  | 79 => ⟨S2x1024x16x32, .f32⟩
  | 80 => ⟨S2x1024x16x32, .f32⟩
  | 81 => ⟨S2x1024x16x64, .f32⟩
  | 82 => ⟨S2x1024x16x64, .f32⟩
  | 83 => ⟨S1024, .f32⟩
  | 84 => ⟨S1024x1, .f32⟩
  | 85 => ⟨S1x32, .f32⟩
  | 86 => ⟨S1024x32, .f32⟩
  | 87 => ⟨S1024x32, .f32⟩
  | 88 => ⟨S1024x32, .f32⟩
  | 89 => ⟨S1024x32, .f32⟩
  | 90 => ⟨S1x1024x1x32, .f32⟩
  | 91 => ⟨S1024x32, .f32⟩
  | 92 => ⟨S1x1024x1x32, .f32⟩
  | 93 => ⟨S2x1024x16x32, .f32⟩
  | 94 => ⟨S2x1024x16x32, .f32⟩
  | 95 => ⟨S2x1024x16x32, .f32⟩
  | 96 => ⟨S2x1024x16x32, .f32⟩
  | 97 => ⟨S2x1024x16x32, .f32⟩
  | 98 => ⟨S2x1024x16x32, .f32⟩
  | 99 => ⟨S2x1024x16x32, .f32⟩
  | 100 => ⟨S2x1024x16x32, .f32⟩
  | 101 => ⟨S2x1024x16x32, .f32⟩
  | 102 => ⟨S2x1024x16x32, .f32⟩
  | 103 => ⟨S2x1024x16x32, .f32⟩
  | 104 => ⟨S2x1024x16x32, .f32⟩
  | 105 => ⟨S2x1024x16x64, .f32⟩
  | 106 => ⟨S2x1024x16x128, .f32⟩
  | 107 => ⟨S2x1024x4x4x128, .f32⟩
  | 108 => ⟨S2x1024x512, .f32⟩
  | 109 => ⟨S2x1024x4x128, .f32⟩
  | 110 => ⟨S1024, .i32⟩
  | 111 => ⟨S_, .i32⟩
  | 112 => ⟨S_, .i32⟩
  | 113 => ⟨S1024, .i32⟩
  | 114 => ⟨S1024, .i32⟩
  | 115 => ⟨S1024, .i32⟩
  | 116 => ⟨S_, .i32⟩
  | 117 => ⟨S1024, .i32⟩
  | 118 => ⟨S1024, .i1⟩
  | 119 => ⟨S1024, .i32⟩
  | 120 => ⟨S1024, .i32⟩
  | 121 => ⟨S_, .i32⟩
  | 122 => ⟨S1024, .i32⟩
  | 123 => ⟨S1024, .i1⟩
  | 124 => ⟨S1024, .i1⟩
  | 125 => ⟨S_, .i32⟩
  | 126 => ⟨S1024, .i32⟩
  | 127 => ⟨S1024, .i32⟩
  | _ => ⟨S10240x9216, .f32⟩

abbrev hbmTy0_1 (i : Nat) : BufTy := match i % 128 with
  | 0 => ⟨S1024, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S1024, .i32⟩
  | 8 => ⟨S1024, .i32⟩
  | 9 => ⟨S_, .i32⟩
  | 10 => ⟨S1024, .i32⟩
  | 11 => ⟨S1024, .i1⟩
  | 12 => ⟨S_, .i32⟩
  | 13 => ⟨S1024, .i32⟩
  | 14 => ⟨S1024, .i1⟩
  | 15 => ⟨S_, .i32⟩
  | 16 => ⟨S_, .i1⟩
  | 17 => ⟨S1024, .i1⟩
  | 18 => ⟨S1024, .i1⟩
  | 19 => ⟨S1024, .i1⟩
  | 20 => ⟨S1024, .i32⟩
  | 21 => ⟨S1024, .i32⟩
  | 22 => ⟨S1024, .i32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S2x1024x4x64, .f32⟩
  | 32 => ⟨S1024, .f32⟩
  | 33 => ⟨S1024x1, .f32⟩
  | 34 => ⟨S1x32, .f32⟩
  | 35 => ⟨S1024x32, .f32⟩
  | 36 => ⟨S1024x32, .f32⟩
  | 37 => ⟨S1024x32, .f32⟩
  | 38 => ⟨S1024x32, .f32⟩
  | 39 => ⟨S1x1024x1x32, .f32⟩
  | 40 => ⟨S1024x32, .f32⟩
  | 41 => ⟨S1x1024x1x32, .f32⟩
  | 42 => ⟨S2x1024x4x32, .f32⟩
  | 43 => ⟨S2x1024x4x32, .f32⟩
  | 44 => ⟨S2x1024x4x32, .f32⟩
  | 45 => ⟨S2x1024x4x32, .f32⟩
  | 46 => ⟨S2x1024x4x32, .f32⟩
  | 47 => ⟨S2x1024x4x32, .f32⟩
  | 48 => ⟨S2x1024x4x32, .f32⟩
  | 49 => ⟨S2x1024x4x32, .f32⟩
  | 50 => ⟨S2x1024x4x32, .f32⟩
  | 51 => ⟨S2x1024x4x32, .f32⟩
  | 52 => ⟨S2x1024x4x32, .f32⟩
  | 53 => ⟨S2x1024x4x32, .f32⟩
  | 54 => ⟨S2x1024x4x64, .f32⟩
  | 55 => ⟨S2x1024x4x64, .f32⟩
  | 56 => ⟨S1024, .f32⟩
  | 57 => ⟨S1024x1, .f32⟩
  | 58 => ⟨S1x32, .f32⟩
  | 59 => ⟨S1024x32, .f32⟩
  | 60 => ⟨S1024x32, .f32⟩
  | 61 => ⟨S1024x32, .f32⟩
  | 62 => ⟨S1024x32, .f32⟩
  | 63 => ⟨S1x1024x1x32, .f32⟩
  | 64 => ⟨S1024x32, .f32⟩
  | 65 => ⟨S1x1024x1x32, .f32⟩
  | 66 => ⟨S2x1024x4x32, .f32⟩
  | 67 => ⟨S2x1024x4x32, .f32⟩
  | 68 => ⟨S2x1024x4x32, .f32⟩
  | 69 => ⟨S2x1024x4x32, .f32⟩
  | 70 => ⟨S2x1024x4x32, .f32⟩
  | 71 => ⟨S2x1024x4x32, .f32⟩
  | 72 => ⟨S2x1024x4x32, .f32⟩
  | 73 => ⟨S2x1024x4x32, .f32⟩
  | 74 => ⟨S2x1024x4x32, .f32⟩
  | 75 => ⟨S2x1024x4x32, .f32⟩
  | 76 => ⟨S2x1024x4x32, .f32⟩
  | 77 => ⟨S2x1024x4x32, .f32⟩
  | 78 => ⟨S2x1024x4x64, .f32⟩
  | 79 => ⟨S2x1024x4x128, .f32⟩
  | 80 => ⟨S2x1024x512, .f32⟩
  | 81 => ⟨S2x1024x4x128, .f32⟩
  | 82 => ⟨S1024, .i32⟩
  | 83 => ⟨S1024x1, .i32⟩
  | 84 => ⟨S1x1024, .i32⟩
  | 85 => ⟨S1024x1024, .i32⟩
  | 86 => ⟨S1024x1024, .i32⟩
  | 87 => ⟨S1024x1024, .i32⟩
  | 88 => ⟨S1024x1024, .i32⟩
  | 89 => ⟨S_, .i32⟩
  | 90 => ⟨S1024x1024, .i32⟩
  | 91 => ⟨S1024x1024, .i1⟩
  | 92 => ⟨S2x4x1024x1024x4, .f32⟩
  | 93 => ⟨S2x4x4x1024x1024, .f32⟩
  | 94 => ⟨S_, .f32⟩
  | 95 => ⟨S_, .f32⟩
  | 96 => ⟨S2x4x4x1024x1024, .f32⟩
  | 97 => ⟨S2x4x4x1024x1024, .f32⟩
  | 98 => ⟨S_, .f32⟩
  | 99 => ⟨S_, .f32⟩
  | 100 => ⟨S2x4x4x1024x1024, .i1⟩
  | 101 => ⟨S2x4x4x1024x1024, .f32⟩
  | 102 => ⟨S2x4x4x1024x1024, .f32⟩
  | 103 => ⟨S2x4x512x1024x4, .f32⟩
  | 104 => ⟨S2x4x4x1024x512, .f32⟩
  | 105 => ⟨S_, .f32⟩
  | 106 => ⟨S_, .f32⟩
  | 107 => ⟨S2x4x4x1024x512, .f32⟩
  | 108 => ⟨S2x4x4x1024x512, .f32⟩
  | 109 => ⟨S2x4x4x1024x1536, .f32⟩
  | 110 => ⟨S4x4x1x1, .f32⟩
  | 111 => ⟨S2x4x4x1024x1, .f32⟩
  | 112 => ⟨S2x4x4x1024x1537, .f32⟩
  | 113 => ⟨S_, .f32⟩
  | 114 => ⟨S2x4x4x1024, .f32⟩
  | 115 => ⟨S_, .f32⟩
  | 116 => ⟨S2x4x4x1024, .f32⟩
  | 117 => ⟨S2x4x4x1024, .f32⟩
  | 118 => ⟨S2x4x4x1024x1, .f32⟩
  | 119 => ⟨S2x4x4x1024x1537, .f32⟩
  | 120 => ⟨S2x4x4x1024x1537, .f32⟩
  | 121 => ⟨S2x4x4x1024x1537, .f32⟩
  | 122 => ⟨S_, .f32⟩
  | 123 => ⟨S2x4x4x1024, .f32⟩
  | 124 => ⟨S2x4x4x1024x1, .f32⟩
  | 125 => ⟨S2x4x4x1024x1537, .f32⟩
  | 126 => ⟨S2x4x4x1024x1537, .f32⟩
  | 127 => ⟨S2x4x4x1024x1536, .f32⟩
  | _ => ⟨S10240x9216, .f32⟩

abbrev hbmTy0_2 (i : Nat) : BufTy := match i % 128 with
  | 0 => ⟨S2x4x4x1024x1024, .f32⟩
  | 1 => ⟨S2x4x128x4x1024, .f32⟩
  | 2 => ⟨S2x1024x4x4x128, .f32⟩
  | 3 => ⟨S2x4x4x1024x512, .f32⟩
  | 4 => ⟨S2x4x128x4x1024, .f32⟩
  | 5 => ⟨S2x1024x4x4x128, .f32⟩
  | 6 => ⟨S2x1024x4x4x128, .f32⟩
  | 7 => ⟨S2048x2048, .f32⟩
  | 8 => ⟨S2048x2048, .f32⟩
  | 9 => ⟨S_, .f32⟩
  | 10 => ⟨S2048, .f32⟩
  | 11 => ⟨S2048x1, .f32⟩
  | 12 => ⟨S_, .f32⟩
  | 13 => ⟨S2048x1, .f32⟩
  | 14 => ⟨S2048x1, .f32⟩
  | 15 => ⟨S_, .f32⟩
  | 16 => ⟨S2048x1, .f32⟩
  | 17 => ⟨S2048x1, .f32⟩
  | 18 => ⟨S2048x1, .f32⟩
  | 19 => ⟨S2048x2048, .f32⟩
  | 20 => ⟨S2048x2048, .f32⟩
  | 21 => ⟨S1x2048, .f32⟩
  | 22 => ⟨S2048x2048, .f32⟩
  | 23 => ⟨S2048x2048, .f32⟩
  | 24 => ⟨S2048x2048, .bf16⟩
  | _ => ⟨S10240x9216, .f32⟩

abbrev hbmTy (i : Nat) : BufTy := match i / 128 with
  | 0 => hbmTy0_0 i
  | 1 => hbmTy0_1 i
  | 2 => hbmTy0_2 i
  | _ => ⟨S10240x9216, .f32⟩

abbrev bufTy : (tb : Table) → Fin (tcTables nBuf tb) → BufTy
  | .hbm, ⟨i, _⟩ => hbmTy i
  | _, _ => ⟨S10240x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_cst : Ref sig .tc := ⟨.hbm, 52, rfl⟩
abbrev main_v9 : Ref sig .tc := ⟨.hbm, 53, rfl⟩
abbrev main_v10 : Ref sig .tc := ⟨.hbm, 54, rfl⟩
abbrev main_cst_1 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_c_2 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_c : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_c_0 : Ref sig .tc := ⟨.hbm, 125, rfl⟩
abbrev main_call2_v12 : Ref sig .tc := ⟨.hbm, 126, rfl⟩
abbrev main_call2_v13 : Ref sig .tc := ⟨.hbm, 127, rfl⟩
abbrev main_v66 : Ref sig .tc := ⟨.hbm, 128, rfl⟩
abbrev main_c_3 : Ref sig .tc := ⟨.hbm, 129, rfl⟩
abbrev main_call3_v0 : Ref sig .tc := ⟨.hbm, 130, rfl⟩
abbrev main_call3_c : Ref sig .tc := ⟨.hbm, 131, rfl⟩
abbrev main_call3_v1 : Ref sig .tc := ⟨.hbm, 132, rfl⟩
abbrev main_call3_c_0 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_c_1 : Ref sig .tc := ⟨.hbm, 137, rfl⟩
abbrev main_call3_v5 : Ref sig .tc := ⟨.hbm, 138, rfl⟩
abbrev main_call3_v6 : Ref sig .tc := ⟨.hbm, 139, rfl⟩
abbrev main_call3_c_2 : Ref sig .tc := ⟨.hbm, 140, rfl⟩
abbrev main_call3_v7 : Ref sig .tc := ⟨.hbm, 141, rfl⟩
abbrev main_call3_v8 : Ref sig .tc := ⟨.hbm, 142, rfl⟩
abbrev main_call3_c_3 : Ref sig .tc := ⟨.hbm, 143, rfl⟩
abbrev main_call3_v9 : Ref sig .tc := ⟨.hbm, 144, rfl⟩
abbrev main_call3_v10 : Ref sig .tc := ⟨.hbm, 145, rfl⟩
abbrev main_call3_v11 : Ref sig .tc := ⟨.hbm, 146, rfl⟩
abbrev main_call3_v12 : Ref sig .tc := ⟨.hbm, 147, rfl⟩
abbrev main_call3_v13 : Ref sig .tc := ⟨.hbm, 148, rfl⟩
abbrev main_call3_v14 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_cst_4 : Ref sig .tc := ⟨.hbm, 153, rfl⟩
abbrev main_v70 : Ref sig .tc := ⟨.hbm, 154, rfl⟩
abbrev main_v71 : Ref sig .tc := ⟨.hbm, 155, rfl⟩
abbrev main_cst_5 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_c_6 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_cst_7 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_cst_8 : Ref sig .tc := ⟨.hbm, 226, rfl⟩
abbrev main_call4_v0 : Ref sig .tc := ⟨.hbm, 227, rfl⟩
abbrev main_call4_v1 : Ref sig .tc := ⟨.hbm, 228, rfl⟩
abbrev main_call4_v2 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_cst_9 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_10 : Ref sig .tc := ⟨.hbm, 241, rfl⟩
abbrev main_v149 : Ref sig .tc := ⟨.hbm, 242, rfl⟩
abbrev main_cst_11 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_cst_12 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_cst_13 : Ref sig .tc := ⟨.hbm, 265, rfl⟩
abbrev main_v170 : Ref sig .tc := ⟨.hbm, 266, rfl⟩
abbrev main_v171 : Ref sig .tc := ⟨.hbm, 267, rfl⟩
abbrev main_cst_14 : Ref sig .tc := ⟨.hbm, 268, rfl⟩
abbrev main_v172 : Ref sig .tc := ⟨.hbm, 269, rfl⟩
abbrev main_v173 : Ref sig .tc := ⟨.hbm, 270, rfl⟩
abbrev main_cst_15 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩

abbrev nD : Nat := 1
abbrev τ : Topo := Topo.v7x

variable {F : FTy → Type} [FloatOps F]
-- ==== PreNorm.lean ====
abbrev S10240x4096 : Shape := ⟨2, ![10240, 4096]⟩
abbrev S4096 : Shape := ⟨1, ![4096]⟩
abbrev S8x24576 : Shape := ⟨2, ![8, 24576]⟩
abbrev S1x4096 : Shape := ⟨2, ![1, 4096]⟩
abbrev S256x4096 : Shape := ⟨2, ![256, 4096]⟩
abbrev S8x4096 : Shape := ⟨2, ![8, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S10240x4096, .f32⟩
  | .hbm, ⟨1, _⟩ => ⟨S4096, .f32⟩
  | .hbm, ⟨2, _⟩ => ⟨S8x24576, .f32⟩
  | .hbm, ⟨3, _⟩ => ⟨S1x4096, .f32⟩
  | .hbm, ⟨4, _⟩ => ⟨S10240x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S8x4096, .f32⟩
  | .local _ .vmem, ⟨4, _⟩ => ⟨S8x4096, .f32⟩
  | .local _ .vmem, ⟨5, _⟩ => ⟨S256x4096, .bf16⟩
  | .local _ .vmem, ⟨6, _⟩ => ⟨S256x4096, .bf16⟩
  | _, _ => ⟨S10240x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![40], ![false]⟩

def k0_off1 (i : grid0.Coords) : Fin 2 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c0_i32_6 : BitVec 32 := 0#32
  let c1_i32_5 : BitVec 32 := 1#32
  let c8192_i32_0 : BitVec 32 := 8192#32
  let v2 : BitVec 32 := Scalar.subi v0 c8192_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32 : BitVec 32 := 1#32
  let v18 : BitVec 32 := Scalar.subi v3 c1_i32
  let v19 : BitVec 32 := Scalar.select v17 v18 v3
  let v20 : BitVec 32 := Scalar.addi c1_i32_5 v19
  let v21 : BitVec 32 := Scalar.select v1 c0_i32_6 v20
  let v37 : Index := Scalar.indexCast v21
  let c0_12 : Index := 0#32
  ![v37.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreNormRefIdeal.lean ====
abbrev S10240x4096 : Shape := ⟨2, ![10240, 4096]⟩
abbrev S4096 : Shape := ⟨1, ![4096]⟩
abbrev S8x24576 : Shape := ⟨2, ![8, 24576]⟩
abbrev S8x4096 : Shape := ⟨2, ![8, 4096]⟩
abbrev S_ : Shape := ⟨0, ![]⟩
abbrev S10240 : Shape := ⟨1, ![10240]⟩
abbrev S10240x1 : Shape := ⟨2, ![10240, 1]⟩
abbrev S1x4096 : Shape := ⟨2, ![1, 4096]⟩
abbrev S8192x4096 : Shape := ⟨2, ![8192, 4096]⟩
abbrev S2x4096 : Shape := ⟨2, ![2, 4096]⟩
abbrev S2x1x4096 : Shape := ⟨3, ![2, 1, 4096]⟩
abbrev S2x1024x4096 : Shape := ⟨3, ![2, 1024, 4096]⟩
abbrev S2048x4096 : Shape := ⟨2, ![2048, 4096]⟩

abbrev nBuf : Space → Nat
  | .hbm => 43
  | .vmem => 0
  | .smem => 0
  | _ => 0

abbrev bufTy : (tb : Table) → Fin (tcTables nBuf tb) → BufTy
  | .hbm, ⟨0, _⟩ => ⟨S10240x4096, .f32⟩
  | .hbm, ⟨1, _⟩ => ⟨S4096, .f32⟩
  | .hbm, ⟨2, _⟩ => ⟨S8x24576, .f32⟩
  | .hbm, ⟨3, _⟩ => ⟨S8x4096, .f32⟩
  | .hbm, ⟨4, _⟩ => ⟨S8x4096, .f32⟩
  | .hbm, ⟨5, _⟩ => ⟨S10240x4096, .f32⟩
  | .hbm, ⟨6, _⟩ => ⟨S_, .f32⟩
  | .hbm, ⟨7, _⟩ => ⟨S10240, .f32⟩
  | .hbm, ⟨8, _⟩ => ⟨S10240x1, .f32⟩
  | .hbm, ⟨9, _⟩ => ⟨S_, .f32⟩
  | .hbm, ⟨10, _⟩ => ⟨S10240x1, .f32⟩
  | .hbm, ⟨11, _⟩ => ⟨S10240x1, .f32⟩
  | .hbm, ⟨12, _⟩ => ⟨S_, .f32⟩
  | .hbm, ⟨13, _⟩ => ⟨S10240x1, .f32⟩
  | .hbm, ⟨14, _⟩ => ⟨S10240x1, .f32⟩
  | .hbm, ⟨15, _⟩ => ⟨S10240x1, .f32⟩
  | .hbm, ⟨16, _⟩ => ⟨S10240x4096, .f32⟩
  | .hbm, ⟨17, _⟩ => ⟨S10240x4096, .f32⟩
  | .hbm, ⟨18, _⟩ => ⟨S1x4096, .f32⟩
  | .hbm, ⟨19, _⟩ => ⟨S10240x4096, .f32⟩
  | .hbm, ⟨20, _⟩ => ⟨S10240x4096, .f32⟩
  | .hbm, ⟨21, _⟩ => ⟨S1x4096, .f32⟩
  | .hbm, ⟨22, _⟩ => ⟨S4096, .f32⟩
  | .hbm, ⟨23, _⟩ => ⟨S8192x4096, .f32⟩
  | .hbm, ⟨24, _⟩ => ⟨S2x4096, .f32⟩
  | .hbm, ⟨25, _⟩ => ⟨S2x1x4096, .f32⟩
  | .hbm, ⟨26, _⟩ => ⟨S2x1024x4096, .f32⟩
  | .hbm, ⟨27, _⟩ => ⟨S2048x4096, .f32⟩
  | .hbm, ⟨28, _⟩ => ⟨S10240x4096, .f32⟩
  | .hbm, ⟨29, _⟩ => ⟨S_, .f32⟩
  | .hbm, ⟨30, _⟩ => ⟨S10240x4096, .f32⟩
  | .hbm, ⟨31, _⟩ => ⟨S10240x4096, .f32⟩
  | .hbm, ⟨32, _⟩ => ⟨S10240x4096, .f32⟩
  | .hbm, ⟨33, _⟩ => ⟨S1x4096, .f32⟩
  | .hbm, ⟨34, _⟩ => ⟨S4096, .f32⟩
  | .hbm, ⟨35, _⟩ => ⟨S8192x4096, .f32⟩
  | .hbm, ⟨36, _⟩ => ⟨S2x4096, .f32⟩
  | .hbm, ⟨37, _⟩ => ⟨S2x1x4096, .f32⟩
  | .hbm, ⟨38, _⟩ => ⟨S2x1024x4096, .f32⟩
  | .hbm, ⟨39, _⟩ => ⟨S2048x4096, .f32⟩
  | .hbm, ⟨40, _⟩ => ⟨S10240x4096, .f32⟩
  | .hbm, ⟨41, _⟩ => ⟨S10240x4096, .f32⟩
  | .hbm, ⟨42, _⟩ => ⟨S10240x4096, .bf16⟩
  | _, _ => ⟨S10240x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Mod.lean ====
abbrev S4096 : Shape := ⟨1, ![4096]⟩
abbrev S2x4096 : Shape := ⟨2, ![2, 4096]⟩
abbrev S4x4096x24576 : Shape := ⟨3, ![4, 4096, 24576]⟩
abbrev S4x24576 : Shape := ⟨2, ![4, 24576]⟩
abbrev S1x4096 : Shape := ⟨2, ![1, 4096]⟩
abbrev S_ : Shape := ⟨0, ![]⟩
abbrev S5x4096 : Shape := ⟨2, ![5, 4096]⟩
abbrev S8x4096 : Shape := ⟨2, ![8, 4096]⟩
abbrev S4x1x24576 : Shape := ⟨3, ![4, 1, 24576]⟩
abbrev S4x8x24576 : Shape := ⟨3, ![4, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 10
  | .vmem => 7
  | .smem => 0
  | _ => 0

abbrev bufTy : (tb : Table) → Fin (tcTables nBuf tb) → BufTy
  | .hbm, ⟨0, _⟩ => ⟨S4096, .f32⟩
  | .hbm, ⟨1, _⟩ => ⟨S2x4096, .f32⟩
  | .hbm, ⟨2, _⟩ => ⟨S4x4096x24576, .f32⟩
  | .hbm, ⟨3, _⟩ => ⟨S4x24576, .f32⟩
  | .hbm, ⟨4, _⟩ => ⟨S1x4096, .f32⟩
  | .hbm, ⟨5, _⟩ => ⟨S_, .f32⟩
  | .hbm, ⟨6, _⟩ => ⟨S5x4096, .f32⟩
  | .hbm, ⟨7, _⟩ => ⟨S8x4096, .f32⟩
  | .hbm, ⟨8, _⟩ => ⟨S4x1x24576, .f32⟩
  | .hbm, ⟨9, _⟩ => ⟨S4x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S4096 : Shape := ⟨1, ![4096]⟩
abbrev S2x4096 : Shape := ⟨2, ![2, 4096]⟩
abbrev S4x4096x24576 : Shape := ⟨3, ![4, 4096, 24576]⟩
abbrev S4x24576 : Shape := ⟨2, ![4, 24576]⟩
abbrev S1x4096 : Shape := ⟨2, ![1, 4096]⟩
abbrev S_ : Shape := ⟨0, ![]⟩
abbrev S5x4096 : Shape := ⟨2, ![5, 4096]⟩
abbrev S8x4096 : Shape := ⟨2, ![8, 4096]⟩
abbrev S4x24576x8 : Shape := ⟨3, ![4, 24576, 8]⟩
abbrev S4x8x24576 : Shape := ⟨3, ![4, 8, 24576]⟩
abbrev S4x1x24576 : Shape := ⟨3, ![4, 1, 24576]⟩

abbrev nBuf : Space → Nat
  | .hbm => 22
  | .vmem => 0
  | .smem => 0
  | _ => 0

abbrev bufTy : (tb : Table) → Fin (tcTables nBuf tb) → BufTy
  | .hbm, ⟨0, _⟩ => ⟨S4096, .f32⟩
  | .hbm, ⟨1, _⟩ => ⟨S2x4096, .f32⟩
  | .hbm, ⟨2, _⟩ => ⟨S4x4096x24576, .f32⟩
  | .hbm, ⟨3, _⟩ => ⟨S4x24576, .f32⟩
  | .hbm, ⟨4, _⟩ => ⟨S1x4096, .f32⟩
  | .hbm, ⟨5, _⟩ => ⟨S_, .f32⟩
  | .hbm, ⟨6, _⟩ => ⟨S5x4096, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .f32⟩
  | .hbm, ⟨16, _⟩ => ⟨S8x4096, .f32⟩
  | .hbm, ⟨17, _⟩ => ⟨S4x24576x8, .f32⟩
  | .hbm, ⟨18, _⟩ => ⟨S4x8x24576, .f32⟩
  | .hbm, ⟨19, _⟩ => ⟨S4x1x24576, .f32⟩
  | .hbm, ⟨20, _⟩ => ⟨S4x8x24576, .f32⟩
  | .hbm, ⟨21, _⟩ => ⟨S4x8x24576, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Prompt.lean ====
abbrev S10240x4096 : Shape := ⟨2, ![10240, 4096]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S10240x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S10240x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PromptRefIdeal.lean ====
abbrev S10240x4096 : Shape := ⟨2, ![10240, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S10240x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S10240x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Sample.lean ====
abbrev S10240x4096 : Shape := ⟨2, ![10240, 4096]⟩
abbrev S4096 : Shape := ⟨1, ![4096]⟩
abbrev S1x4096 : Shape := ⟨2, ![1, 4096]⟩
abbrev S2048x4096 : Shape := ⟨2, ![2048, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S10240x4096, .f32⟩
  | .hbm, ⟨1, _⟩ => ⟨S4096, .f32⟩
  | .hbm, ⟨2, _⟩ => ⟨S1x4096, .f32⟩
  | .hbm, ⟨3, _⟩ => ⟨S2048x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S10240x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SampleRefIdeal.lean ====
abbrev S10240x4096 : Shape := ⟨2, ![10240, 4096]⟩
abbrev S4096 : Shape := ⟨1, ![4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S10240x4096, .f32⟩
  | .hbm, ⟨1, _⟩ => ⟨S4096, .f32⟩
  | .hbm, ⟨2, _⟩ => ⟨S2048x4096, .f32⟩
  | .hbm, ⟨3, _⟩ => ⟨S2048x4096, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x4096, .f32⟩
  | .hbm, ⟨15, _⟩ => ⟨S2048x4096, .f32⟩
  | .hbm, ⟨16, _⟩ => ⟨S1x4096, .f32⟩
  | .hbm, ⟨17, _⟩ => ⟨S2048x4096, .f32⟩
  | .hbm, ⟨18, _⟩ => ⟨S2048x4096, .f32⟩
  | _, _ => ⟨S10240x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Common.lean ====
/- The mathematics several of the certificate's calls share, on the extended reals: the softmax of a row of scores with one
   more logit (the sink), and the constants the programs spell. Every lemma holds for all extended reals: no score, value or
   sink is assumed finite. -/
module

public import Idealize.ShloMosaic.PureOps.Ideal
public import Idealize.ShloMosaic.Lib.Pipeline.ValueKit
public import Idealize.ShloMosaic.Lib.Pipeline.ReadBack
public import Idealize.ShloMosaic.Lib.Pointwise

@[expose] public section

noncomputable section

namespace Cert.Common

open Idealize.ShloMosaic

/-! ## Constants -/

/-- The f32 pattern of minus infinity denotes `⊥`. -/
theorem ofBits_neg_inf : Ideal.ofBits .f32 0xFF800000#32 = ⊥ := by
  simp [Ideal.ofBits, Ideal.ieee]

/-- `128.0` denotes the real 128. -/
theorem ofBits_128 : Ideal.ofBits .f32 0x43000000#32 = ((128 : ℝ) : EReal) := by
  simp [Ideal.ofBits, Ideal.ieee, -EReal.coe_mul]; norm_num

/-- A quotient by the root of 128 is the product with the reciprocal of that root. -/
theorem div_sqrt_128 (x : EReal) :
    Ideal.div x (Ideal.sqrt (Ideal.ofBits .f32 0x43000000#32)) = x * (((Real.sqrt 128)⁻¹ : ℝ) : EReal) := by
  rw [ofBits_128, Ideal.sqrt_coe, if_neg (by norm_num),
    Ideal.div_coe (Real.sqrt_pos.mpr (by norm_num)).ne', one_div]

/-! ## Softmax with a sink -/

/-- The greatest of a family, at least `⊥`. -/
def top {ι : Type} [Fintype ι] (s : ι → EReal) : EReal := Finset.univ.fold max ⊥ s

/-- Softmax of a family: the exponentials of the distances below the greatest, over their sum. -/
def soft {ι : Type} [Fintype ι] (s : ι → EReal) (j : ι) : EReal :=
  Ideal.div (Ideal.exp (s j - top s)) (∑ k, Ideal.exp (s k - top s))

/-- Attention of one query: the softmax of the scores `s` and the sink `sk`, the sink's weight dropped, weighing the values
    `v`. -/
def att {ι : Type} [Fintype ι] (s : ι → EReal) (sk : EReal) (v : ι → EReal) : EReal :=
  ∑ j, Ideal.div (Ideal.exp (s j - max (top s) sk))
    (∑ k, Ideal.exp (s k - max (top s) sk) + Ideal.exp (sk - max (top s) sk)) * v j

/-- A greatest is at most `c` when each member is. -/
theorem top_le {ι : Type} [Fintype ι] (s : ι → EReal) (c : EReal) : top s ≤ c ↔ ∀ j, s j ≤ c := by
  unfold top
  rw [Finset.fold_max_le]
  simp

/-- The greatest of a family with one more member. -/
theorem top_succ {n : ℕ} (s : Fin (n + 1) → EReal) : top s = max (top fun j : Fin n => s j.castSucc) (s (Fin.last n)) := by
  refine eq_of_forall_ge_iff fun c => ?_
  rw [top_le, max_le_iff, top_le, Fin.forall_fin_succ']

/-- Softmax over the scores with the sink put last, its last weight dropped, weighing the values: `att`. -/
theorem sum_soft_succ {n : ℕ} (s : Fin (n + 1) → EReal) (v : Fin n → EReal) :
    ∑ j : Fin n, v j * soft s j.castSucc = att (fun j : Fin n => s j.castSucc) (s (Fin.last n)) v := by
  unfold att soft
  rw [top_succ, Fin.sum_univ_castSucc]
  exact Finset.sum_congr rfl fun j _ => mul_comm _ _

/-- The root mean square norm of a row of 2048 numbers, with its gain `g`, at column `c`. -/
def rms (y : Fin 2048 → EReal) (g : Fin 2048 → EReal) (c : Fin 2048) : EReal :=
  y c * Ideal.rsqrt (Ideal.div (∑ k, y k * y k) (Ideal.ofBits .f32 0x45000000#32) + Ideal.ofBits .f32 0x358637BD#32) * g c

/-- The root mean square norm of a row of 4096 numbers, with its gain `g`, at column `c`. -/
def rmsWide (y : Fin 4096 → EReal) (g : Fin 4096 → EReal) (c : Fin 4096) : EReal :=
  y c * Ideal.rsqrt (Ideal.div (∑ k, y k * y k) (Ideal.ofBits .f32 0x45800000#32) + Ideal.ofBits .f32 0x358637BD#32) * g c

/-! ## Pieces read back -/

/-- Stores that cover an array and are each a block of `G`, the whole array then loaded: `G`. -/
theorem readCov_pieces {sig : RefSig} {κ : Kind} {sp : Space} {s : Shape} {e : EltTy} {Val : EltTy → Type}
    [∀ e, Nonempty (Val e)] (v : View sig κ sp s e) (L : List (View.Piece Val s e)) (G : s.Idx → Val e)
    (h : View.PiecesOf G L) (hc : ∀ y, ∃ p ∈ L, y ∈ p.1.set) {off : Fin s.rank → ℕ}
    (inb : ∀ a, off a + s.size a ≤ s.size a) :
    v.readCov L (Rect.unit off (no_index s.size) inb).toLoadRect = G := by
  rw [View.readCov_eq_canon']
  funext j
  rw [View.canon_apply_of_pieces G L h.mem _ (hc _)]
  refine congrArg G (funext fun a => Fin.ext ?_)
  have := inb a
  exact (Rect.idx_unit_val off s.size inb j a).trans (by omega)

/-- The row of the modulation a token reads: row 0 for the context tokens, then one row for each sequence of latent
    tokens. -/
def gateRow (r : Fin 10240) : Fin 8 :=
  if r.val < 8192 then 0 else ⟨1 + (r.val - 8192) / 1024, by omega⟩

/-- Tokens within one stretch of 1024 read the row its start reads. -/
theorem gateRow_block (s y : Nat) (hy : s % 1024 + y < 1024) (h : s + y < 10240) : (gateRow ⟨s + y, h⟩).val
    = if s < 8192 then 0 else 1 + (s - 8192) / 1024 := by
  unfold gateRow
  split_ifs with h1 h2 h2
  · rfl
  · simp only at h1; omega
  · simp only at h1; omega
  · simp only at h1 ⊢; omega

end Cert.Common

end
-- ==== Proof.Ctx.lean ====
/- The attention of the context tokens and the norm after it: for each of 32 sequences of 256 tokens and each of 16 heads, the
   softmax of the scaled scores and of the head's sink over all keys, weighing the values, then the root mean square norm of
   each token's 2048 columns. The kernel does one sequence per grid point and writes the heads side by side into a scratch
   array it norms at the end; the reference does all of it by whole-array products. Both are `attn`. -/
module

public import proofs.«01_k».proof.Defs
public import proofs.«01_k».proof.Proof.Common
public import proofs.«01_k».proof.Proof.Gen.Ctx.Frame
public import proofs.«01_k».proof.Proof.Gen.CtxIdeal.Value
public import proofs.«01_k».proof.Proof.Gen.CtxRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.CtxIdeal.Attn

open Cert.CtxIdeal Cert.CtxIdeal.Gen
open Cert.Common (att rms top)

variable (m : (ℓ : Loc nD τ sig) → Buf (Elt Ideal) ℓ)

/-- The scale of the scores, the reciprocal of the root of 128. -/
def scale : EReal := (((Real.sqrt 128)⁻¹ : ℝ) : EReal)

/-- The kernel's named constant denotes the scale. -/
theorem attn_scale : Named.named (F := Ideal) κ "attn_scale" (φ := .f32) 0x3DB504F3#32 = scale :=
  IdealRules.named_const.ideal_named_scalar _ _ _ _ rfl

/-- Attention of sequence `b`, query `r`, at column `c` of the 2048 (head `c / 128`, its key and value group `c / 512`). -/
def attend (p : FVec Ideal S10240x9216 .f32) (sink : FVec Ideal S16 .f32) (b : Fin 32) (r : Fin 256) (c : Fin 2048) : EReal :=
  att (fun j : Fin 256 => (∑ d : Fin 128,
        p (ix2 ⟨b.val * 256 + r.val, by omega⟩ ⟨6144 + (c.val / 128 * 128 + d.val), by omega⟩)
          * p (ix2 ⟨b.val * 256 + j.val, by omega⟩ ⟨8192 + (c.val / 512 * 128 + d.val), by omega⟩)) * scale)
    (sink (ix1 ⟨c.val / 128, by omega⟩))
    (fun j : Fin 256 => p (ix2 ⟨b.val * 256 + j.val, by omega⟩ ⟨8704 + (c.val / 512 * 128 + c.val % 128), by omega⟩))

/-- The result: attention, then the norm over a token's columns. -/
def attn (p : FVec Ideal S10240x9216 .f32) (sink : FVec Ideal S16 .f32) (g : FVec Ideal S2048 .f32) :
    FVec Ideal S8192x2048 .bf16 := fun i =>
  rms (fun c => attend p sink ⟨(i 0).val / 256, by have := (i 0).isLt; simp at this; omega⟩ ⟨(i 0).val % 256, by omega⟩ c)
    (fun c => g (ix1 c)) (i 1)

/-! ## The kernel -/

/-- What one head's stored block holds: its attention, from the blocks of its queries, keys and values. -/
theorem head_apply (k v q : FVec Ideal S256x128 .f32) (s : Elt Ideal .f32) (i : S256x128.Idx) :
    k0_pay3 k v q s i = att (fun j : Fin 256 => (∑ d : Fin 128, q (ix2 (i 0) d) * k (ix2 j d)) * scale) s
      (fun j => v (ix2 j (i 1))) := by
  idx_vars i
  unfold att top
  rw [← attn_scale, ← Cert.Common.ofBits_neg_inf]
  pointwise [k0_pay3, k0_pay1, k0_pay2]

/-- Attention of the sequence staged, query `r`, at column `c`, from the blocks of its queries, keys and values. -/
def headsAt (x0 : FVec Ideal S16 .f32) (x1 : FVec Ideal S256x2048 .f32) (x2 x3 : FVec Ideal S256x512 .f32)
    (r : Fin 256) (c : Fin 2048) : EReal :=
  att (fun j : Fin 256 => (∑ d : Fin 128, x1 (ix2 r ⟨c.val / 128 * 128 + d.val, by omega⟩)
        * x2 (ix2 j ⟨c.val / 512 * 128 + d.val, by omega⟩)) * scale)
    (x0 (ix1 ⟨c.val / 128, by omega⟩))
    (fun j : Fin 256 => x3 (ix2 j ⟨c.val / 512 * 128 + c.val % 128, by omega⟩))

/-- What the scratch array holds once every head is stored. -/
def heads (x0 : FVec Ideal S16 .f32) (x1 : FVec Ideal S256x2048 .f32) (x2 x3 : FVec Ideal S256x512 .f32) :
    FVec Ideal S256x2048 .f32 := fun i => headsAt x0 x1 x2 x3 (i 0) (i 1)

/-- Head `h`'s stored block is its block of `heads`. -/
theorem head_piece (x0 : FVec Ideal S16 .f32) (x1 : FVec Ideal S256x2048 .f32) (x2 x3 : FVec Ideal S256x512 .f32) (h g : ℕ)
    (hg : g = h / 4) (hk : ∀ a, ![0, g * 128] a + S256x128.size a ≤ S256x512.size a)
    (hq : ∀ a, ![0, h * 128] a + S256x128.size a ≤ S256x2048.size a)
    (hs : ∀ a, ![h] a + S1.size a ≤ S16.size a) (i0 : S1.Idx) (z : S256x128.Idx) :
    k0_pay3 (View.ld x2 (Rect.unit (s := S256x512) ![0, g * 128] S256x128.size hk)) (View.ld x3 (Rect.unit (s := S256x512) ![0, g * 128] S256x128.size hk))
      (View.ld x1 (Rect.unit (s := S256x2048) ![0, h * 128] S256x128.size hq)) (View.ld x0 (Rect.unit (s := S16) ![h] S1.size hs) i0) z
      = heads x0 x1 x2 x3 ((Rect.unit (s := S256x2048) ![0, h * 128] S256x128.size hq).emb z) := by
  subst hg
  have hh : h < 16 := by simpa using hs 0
  have hz : h * 128 + (z 1).val < 2048 := by
    have : (z 1).val < 128 := (z 1).isLt
    omega
  have e0 : (Rect.unit (s := S256x2048) ![0, h * 128] S256x128.size hq).emb z 0 = z 0 :=
    Fin.ext ((Rect.idx_unit_val (s := S256x2048) ![0, h * 128] S256x128.size hq z 0).trans (Nat.zero_add _))
  have e1 : (Rect.unit (s := S256x2048) ![0, h * 128] S256x128.size hq).emb z 1
      = ⟨h * 128 + (z 1).val, hz⟩ :=
    Fin.ext (Rect.idx_unit_val (s := S256x2048) ![0, h * 128] S256x128.size hq z 1)
  rw [head_apply, heads, e0, e1]
  idx_vars z
  have d1 : (h * 128 + z1.val) / 128 = h := by omega
  have d2 : (h * 128 + z1.val) / 512 = h / 4 := by omega
  have d3 : (h * 128 + z1.val) % 128 = z1.val := by omega
  unfold headsAt
  pointwise [d1, d2, d3]

/-- The norm and the store: the scratch array's rows, each normed. -/
theorem norm_apply (a : FVec Ideal S256x2048 .f32) (g : FVec Ideal S1x2048 .f32) (i : S256x2048.Idx) :
    k0_pay45 (F := Ideal) a g i = rms (fun c => a (ix2 (i 0) c)) (fun c => g (ix2 0 c)) (i 1) := by
  idx_vars i
  unfold rms
  pointwise [k0_pay45]

/-- The grid point is the sequence: which block each window has there. -/
theorem idx : ∀ t : Fin grid0.N, win0_0.index t = ![0] ∧ win0_1.index t = ![t.val, 3] ∧ win0_2.index t = ![t.val, 16]
    ∧ win0_3.index t = ![t.val, 17] ∧ win0_4.index t = ![0, 0] ∧ win0_5.index t = ![t.val, 0] := by decide +kernel

/-- The block of queries, staged whole. -/
theorem queries_apply (c : Dev nD) (t : Fin cfg0.N) (r : Fin 256) (d : Fin 2048) (b : Fin 32) (hb : b.val = t.val) :
    X0_1 m c t (ix2 r d) = m ((c : Thread nD τ).loc main_arg0)
      (ix2 ⟨b.val * 256 + r.val, by omega⟩ ⟨6144 + d.val, by omega⟩) := by
  unfold X0_1 Pipeline.Window.fill
  rw [dif_pos (moved0_1 t _)]
  have h := idx t
  blk_point [iblk, V, h.1, h.2.1]

/-- The block of keys. -/
theorem keys_apply (c : Dev nD) (t : Fin cfg0.N) (r : Fin 256) (d : Fin 512) (b : Fin 32) (hb : b.val = t.val) :
    iblk m c 2 t (ix2 r d) = m ((c : Thread nD τ).loc main_arg0)
      (ix2 ⟨b.val * 256 + r.val, by omega⟩ ⟨8192 + d.val, by omega⟩) := by
  have h := idx t
  blk_point [iblk, V, h.2.2.1]

/-- The block of values. -/
theorem values_apply (c : Dev nD) (t : Fin cfg0.N) (r : Fin 256) (d : Fin 512) (b : Fin 32) (hb : b.val = t.val) :
    iblk m c 3 t (ix2 r d) = m ((c : Thread nD τ).loc main_arg0)
      (ix2 ⟨b.val * 256 + r.val, by omega⟩ ⟨8704 + d.val, by omega⟩) := by
  have h := idx t
  blk_point [iblk, V, h.2.2.2.1]

/-- The sinks, staged whole. -/
theorem sink_apply (c : Dev nD) (t : Fin cfg0.N) (h : Fin 16) :
    iblk m c 0 t (ix1 h) = m ((c : Thread nD τ).loc main_arg1) (ix1 h) := by
  have h := idx t
  blk_point [iblk, V, h.1]

/-- The gain, staged whole: the argument under a leading axis of one. -/
theorem gain_apply (c : Dev nD) (t : Fin cfg0.N) (d : Fin 2048) :
    iblk m c 4 t (ix2 0 d) = m ((c : Thread nD τ).loc main_arg2) (ix1 d) := by
  have h := idx t
  blk_point [iblk, h.2.2.2.2.1]

/-- The scratch array's columns are the attention of the point's sequence. -/
theorem headsAt_eq (c : Dev nD) (t : Fin cfg0.N) (r : Fin 256) (d : Fin 2048) (b : Fin 32) (hb : b.val = t.val) :
    headsAt (iblk m c 0 t) (X0_1 m c t) (iblk m c 2 t) (iblk m c 3 t) r d
      = attend (m ((c : Thread nD τ).loc main_arg0)) (m ((c : Thread nD τ).loc main_arg1)) b r d := by
  unfold headsAt attend
  simp only [queries_apply m c t _ _ b hb, keys_apply m c t _ _ b hb, values_apply m c t _ _ b hb, sink_apply]

/-- The result array after the run. -/
theorem final (c : Dev nD) : (dats m 0 c).arrAt 5 (cfgs 0).N
    = attn (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold outsAt0
  frame_out
  rw [Cert.Common.readCov_pieces _ _ (heads (iblk m c 0 t) (X0_1 m c t) (iblk m c 2 t) (iblk m c 3 t)) ?pieces ?cover]
  case pieces =>
    exact ⟨head_piece _ _ _ _ 15 3 rfl _ _ _ _, head_piece _ _ _ _ 14 3 rfl _ _ _ _, head_piece _ _ _ _ 13 3 rfl _ _ _ _,
      head_piece _ _ _ _ 12 3 rfl _ _ _ _, head_piece _ _ _ _ 11 2 rfl _ _ _ _, head_piece _ _ _ _ 10 2 rfl _ _ _ _,
      head_piece _ _ _ _ 9 2 rfl _ _ _ _, head_piece _ _ _ _ 8 2 rfl _ _ _ _, head_piece _ _ _ _ 7 1 rfl _ _ _ _,
      head_piece _ _ _ _ 6 1 rfl _ _ _ _, head_piece _ _ _ _ 5 1 rfl _ _ _ _, head_piece _ _ _ _ 4 1 rfl _ _ _ _,
      head_piece _ _ _ _ 3 0 rfl _ _ _ _, head_piece _ _ _ _ 2 0 rfl _ _ _ _, head_piece _ _ _ _ 1 0 rfl _ _ _ _,
      head_piece _ _ _ _ 0 0 rfl _ _ _ _, trivial⟩
  case cover => exact View.cover_of_tiled _ ![256, 128] (by rfl)
  rw [norm_apply]
  have ht : t.val < 32 := t.isLt
  idx_vars y
  have e : ((View.whole main_v1).slice (win0_5.rect t)).emb (ix2 y0 y1) = ix2 ⟨t.val * 256 + y0.val, by omega⟩ y1 := by
    have h := idx t
    blk_ext [h.2.2.2.2.2]
  have e0 : (t.val * 256 + y0.val) / 256 = t.val := by omega
  have e1 : (t.val * 256 + y0.val) % 256 = y0.val := by omega
  rw [e]
  simp only [heads, attn, ix2, Matrix.cons_val_zero, Matrix.cons_val_one, gain_apply, headsAt_eq m c t _ _ ⟨t.val, ht⟩ rfl, e0, e1]

end Cert.CtxIdeal.Attn

/-! ## The reference -/

namespace Cert.CtxRefIdeal.Attn

open Cert.CtxRefIdeal Cert.CtxRefIdeal.Gen
open Cert.Common (att soft top rms)

/-- The rows of the context tokens, by sequence. -/
abbrev rows (p : FVec Ideal S10240x9216 .f32) : FVec Ideal S32x256x9216 .f32 :=
  shapeCast _ (extractStridedSlice S8192x9216 ![0, 0] p slices_S10240x9216_S8192x9216_0_0) shapeCasts_S8192x9216_S32x256x9216

/-- The scores by sequence, group, head of the group, query and key, the sink after the 256 keys. -/
def scores (p : FVec Ideal S10240x9216 .f32) (sink : FVec Ideal S16 .f32) : FVec Ideal S32x4x4x256x257 .f32 :=
  concatenate S32x4x4x256x257 4
    [⟨S32x4x4x256x256, Host.divf
        (transpose S32x4x4x256x256 [0, 1, 4, 3, 2]
          (Host.dotGeneral dot_S32x256x4x128_S32x256x4x4x128_S32x4x256x256x4_3_4_1_13_02_02 none
            (shapeCast _ (extractStridedSlice S32x256x512 ![0, 0, 8192] (rows p) slices_S32x256x9216_S32x256x512_0_0_8192)
              shapeCasts_S32x256x512_S32x256x4x128)
            (shapeCast _ (extractStridedSlice S32x256x2048 ![0, 0, 6144] (rows p) slices_S32x256x9216_S32x256x2048_0_0_6144)
              shapeCasts_S32x256x2048_S32x256x4x4x128))
          transposes_S32x4x256x256x4_S32x4x4x256x256_0_1_4_3_2)
        (broadcastInDim S32x4x4x256x256 ![] bcast_S_S32x4x4x256x256 (Host.sqrt (constant S_ .f32 0x43000000#32)))⟩,
     ⟨S32x4x4x256x1, broadcastInDim S32x4x4x256x1 ![1, 2, 3, 4] bcast_S4x4x1x1_S32x4x4x256x1_1_2_3_4
        (shapeCast _ sink shapeCasts_S16_S4x4x1x1)⟩]
    concatenates_S32x4x4x256x256_S32x4x4x256x1_S32x4x4x256x257_d4

/-- A row's number repeated along the row. -/
abbrev along (x : FVec Ideal S32x4x4x256 .f32) : FVec Ideal S32x4x4x256x257 .f32 :=
  broadcastInDim S32x4x4x256x257 ![0, 1, 2, 3, 4] bcast_S32x4x4x256x1_S32x4x4x256x257_0_1_2_3_4
    (broadcastInDim S32x4x4x256x1 ![0, 1, 2, 3] bcast_S32x4x4x256_S32x4x4x256x1_0_1_2_3 x)

/-- The exponentials of the scores' distances below their row's greatest. -/
def exps (s : FVec Ideal S32x4x4x256x257 .f32) : FVec Ideal S32x4x4x256x257 .f32 :=
  Host.exp (subf s (along (maximumf (broadcastInDim S32x4x4x256 ![] bcast_S_S32x4x4x256 (constant S_ .f32 0xFF800000#32))
    (Host.reduce FloatOps.maximumf s (constant S_ .f32 0xFF800000#32) reducesTo_S32x4x4x256x257_S32x4x4x256_d4 h_S_))))

/-- The softmax weights. -/
def weights (s : FVec Ideal S32x4x4x256x257 .f32) : FVec Ideal S32x4x4x256x257 .f32 :=
  Host.divf (exps s) (along
    (Host.reduceAdd (exps s) (constant S_ .f32 0x00000000#32) reducesTo_S32x4x4x256x257_S32x4x4x256_d4 h_S_))

/-- The weighted values, heads side by side. -/
def mixed (p : FVec Ideal S10240x9216 .f32) (w : FVec Ideal S32x4x4x256x257 .f32) : FVec Ideal S8192x2048 .f32 :=
  shapeCast _ (transpose S32x256x4x4x128 [0, 4, 1, 3, 2]
    (Host.dotGeneral dot_S32x256x4x128_S32x4x4x256x256_S32x4x128x4x256_1_4_3_23_02_01 none
      (shapeCast _ (extractStridedSlice S32x256x512 ![0, 0, 8704] (rows p) slices_S32x256x9216_S32x256x512_0_0_8704)
        shapeCasts_S32x256x512_S32x256x4x128)
      (extractStridedSlice S32x4x4x256x256 ![0, 0, 0, 0, 0] w slices_S32x4x4x256x257_S32x4x4x256x256_0_0_0_0_0))
    transposes_S32x4x128x4x256_S32x256x4x4x128_0_4_1_3_2) shapeCasts_S32x256x4x4x128_S8192x2048

/-- The norm of each row. -/
def normed (y : FVec Ideal S8192x2048 .f32) (g : FVec Ideal S2048 .f32) : FVec Ideal S8192x2048 .bf16 :=
  truncf .bf16 (mulf (mulf y (broadcastInDim S8192x2048 ![0, 1] bcast_S8192x1_S8192x2048_0_1
      (Host.rsqrt (addf (Host.divf (broadcastInDim S8192x1 ![0] bcast_S8192_S8192x1_0
            (Host.reduceAdd (mulf y y) (constant S_ .f32 0x00000000#32) reducesTo_S8192x2048_S8192_d1 h_S_))
          (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1
      (broadcastInDim S1x2048 ![1] bcast_S2048_S1x2048_1 g))) bitsLt_bf16_f32

/-- The run's result is these stages, one after another. -/
theorem result_eq (m : (ℓ : Loc nD τ sig) → Buf (Elt Ideal) ℓ) (c : Dev nD) :
    Value.res_out0 m c = normed (mixed (m ((c.tc : Thread nD τ).loc main_arg0))
        (weights (scores (m ((c.tc : Thread nD τ).loc main_arg0)) (m ((c.tc : Thread nD τ).loc main_arg1)))))
      (m ((c.tc : Thread nD τ).loc main_arg2)) := rfl

/-- The norm of the reference, read at an index. -/
theorem normed_apply (y : FVec Ideal S8192x2048 .f32) (g : FVec Ideal S2048 .f32) (i : S8192x2048.Idx) :
    normed y g i = rms (fun k => y (ix2 (i 0) k)) (fun k => g (ix1 k)) (i 1) := by
  idx_vars i
  unfold rms
  pointwise [normed]

/-- A row's greatest score. -/
def greatest (s : FVec Ideal S32x4x4x256x257 .f32) : FVec Ideal S32x4x4x256 .f32 :=
  maximumf (broadcastInDim S32x4x4x256 ![] bcast_S_S32x4x4x256 (constant S_ .f32 0xFF800000#32))
    (Host.reduce FloatOps.maximumf s (constant S_ .f32 0xFF800000#32) reducesTo_S32x4x4x256x257_S32x4x4x256_d4 h_S_)

/-- The greatest of a row of scores, as the reference folds it. -/
theorem reduced_apply (s : FVec Ideal S32x4x4x256x257 .f32) (b : Fin 32) (k h : Fin 4) (q : Fin 256) :
    (Host.reduce FloatOps.maximumf s (constant (F := Ideal) S_ .f32 0xFF800000#32) reducesTo_S32x4x4x256x257_S32x4x4x256_d4 h_S_) (ix4 b k h q)
     = top fun j : Fin 257 => s (ix5 b k h q j) := by
  unfold top
  rw [← Cert.Common.ofBits_neg_inf]
  pointwise

/-- A greatest with minus infinity changes nothing. -/
theorem max_bot (x : FVec Ideal S32x4x4x256 .f32) (i : S32x4x4x256.Idx) :
   maximumf (broadcastInDim S32x4x4x256 ![] bcast_S_S32x4x4x256 (constant (F := Ideal) S_ .f32 0xFF800000#32)) x i = x i := by
  show max (Ideal.ofBits .f32 0xFF800000#32) (x i) = x i
  rw [Cert.Common.ofBits_neg_inf]
  exact max_eq_right bot_le

/-- The greatest of a row of scores. -/
theorem greatest_apply (s : FVec Ideal S32x4x4x256x257 .f32) (b : Fin 32) (k h : Fin 4) (q : Fin 256) :
    greatest s (ix4 b k h q) = top fun j : Fin 257 => s (ix5 b k h q j) :=
  (max_bot _ _).trans (reduced_apply s b k h q)

/-- The exponentials of the scores less their greatest, read at an index. -/
theorem exps_apply (s : FVec Ideal S32x4x4x256x257 .f32) (b : Fin 32) (k h : Fin 4) (q : Fin 256) (j : Fin 257) :
    exps s (ix5 b k h q j) = Ideal.exp (s (ix5 b k h q j) - top fun j : Fin 257 => s (ix5 b k h q j)) := by
  rw [← greatest_apply]
  show Host.exp (subf s (along (greatest s))) (ix5 b k h q j) = _
  pointwise

/-- The weights of the softmax, read at an index. -/
theorem weights_apply (s : FVec Ideal S32x4x4x256x257 .f32) (b : Fin 32) (k h : Fin 4) (q : Fin 256) (j : Fin 257) :
    weights s (ix5 b k h q j) = soft (fun j => s (ix5 b k h q j)) j := by
  unfold soft
  simp only [← exps_apply]
  pointwise [weights]

/-- The weighted sum of the values, read at an index. -/
theorem mixed_apply (p : FVec Ideal S10240x9216 .f32) (w : FVec Ideal S32x4x4x256x257 .f32) (r : Fin 8192) (c : Fin 2048) :
    mixed p w (ix2 r c) = ∑ x : Fin 256,
      p (ix2 ⟨r.val / 256 * 256 + x.val, by omega⟩ ⟨8704 + (c.val / 512 * 128 + c.val % 128), by omega⟩)
        * w (ix5 ⟨r.val / 256, by omega⟩ ⟨c.val / 512, by omega⟩ ⟨c.val / 128 % 4, by omega⟩ ⟨r.val % 256, by omega⟩
          x.castSucc) := by
  pointwise [mixed]
  rfl

/-- The scores, read at an index: a key's product with the query over the root of 128, or the head's sink. -/
theorem scores_apply (p : FVec Ideal S10240x9216 .f32) (sink : FVec Ideal S16 .f32) (b : Fin 32) (k h : Fin 4)
    (q : Fin 256) (j : Fin 257) : scores p sink (ix5 b k h q j)
      = if hj : j.val < 256 then Ideal.div
          (∑ d : Fin 128, p (ix2 ⟨b.val * 256 + j.val, by omega⟩ ⟨8192 + (k.val * 128 + d.val), by omega⟩)
            * p (ix2 ⟨b.val * 256 + q.val, by omega⟩ ⟨6144 + (k.val * 512 + h.val * 128 + d.val), by omega⟩))
          (Ideal.sqrt (Ideal.ofBits .f32 0x43000000#32))
        else sink (ix1 ⟨k.val * 4 + h.val, by omega⟩) := by
  pointwise [scores]

/-- The scores at a key, read at an index. -/
theorem scores_key (p : FVec Ideal S10240x9216 .f32) (sink : FVec Ideal S16 .f32) (b : Fin 32) (k h : Fin 4)
    (q j : Fin 256) : scores p sink (ix5 b k h q j.castSucc)
      = (∑ d : Fin 128, p (ix2 ⟨b.val * 256 + q.val, by omega⟩ ⟨6144 + (k.val * 512 + h.val * 128 + d.val), by omega⟩)
          * p (ix2 ⟨b.val * 256 + j.val, by omega⟩ ⟨8192 + (k.val * 128 + d.val), by omega⟩)) * Cert.CtxIdeal.Attn.scale := by
  rw [scores_apply, dif_pos (show (j.castSucc : Fin 257).val < 256 from j.isLt), Cert.Common.div_sqrt_128]
  exact congrArg (· * _) (Finset.sum_congr rfl fun d _ => mul_comm _ _)

/-- The score of the sink, read at an index. -/
theorem scores_sink (p : FVec Ideal S10240x9216 .f32) (sink : FVec Ideal S16 .f32) (b : Fin 32) (k h : Fin 4)
    (q : Fin 256) : scores p sink (ix5 b k h q (Fin.last 256)) = sink (ix1 ⟨k.val * 4 + h.val, by omega⟩) := by
  rw [scores_apply, dif_neg (by simp)]

/-- The weighted values are the attention the kernel's statement names. -/
theorem mixed_eq (p : FVec Ideal S10240x9216 .f32) (sink : FVec Ideal S16 .f32) (r : Fin 8192) (c : Fin 2048) :
    mixed p (weights (scores p sink)) (ix2 r c)
      = Cert.CtxIdeal.Attn.attend p sink ⟨r.val / 256, by omega⟩ ⟨r.val % 256, by omega⟩ c := by
  have d1 : c.val / 512 * 512 + c.val / 128 % 4 * 128 = c.val / 128 * 128 := by omega
  have d2 : c.val / 512 * 4 + c.val / 128 % 4 = c.val / 128 := by omega
  rw [mixed_apply]
  simp only [weights_apply]
  rw [Cert.Common.sum_soft_succ (n := 256)]
  simp only [scores_key, scores_sink, d1, d2]
  rfl

/-- The reference's result is the function the kernel's statement names. -/
theorem result (m : (ℓ : Loc nD τ sig) → Buf (Elt Ideal) ℓ) (c : Dev nD) :
    Value.res_out0 m c = Cert.CtxIdeal.Attn.attn (m ((c.tc : Thread nD τ).loc main_arg0))
      (m ((c.tc : Thread nD τ).loc main_arg1)) (m ((c.tc : Thread nD τ).loc main_arg2)) := by
  rw [result_eq]
  funext i
  rw [normed_apply]
  exact congrArg (rms · _ _) (funext fun k => mixed_eq _ _ (i 0) k)

end Cert.CtxRefIdeal.Attn

/-! ## The claims -/

namespace Cert.Proof.CtxClaims

/-- The kernel computes without a fault and leaves its operands. -/
theorem frame_p : Cert.quiescent_Ctx := fun m ρ _ => Cert.Ctx.Gen.frame m ρ

/-- So does the idealized kernel. -/
theorem frame_pi : Cert.quiescent_CtxIdeal := fun m ρ _ => Cert.CtxIdeal.Gen.frame m ρ

/-- So does the reference. -/
theorem frame_ri : Cert.quiescent_CtxRefIdeal := fun m ρ _ =>
  (θ_run Cert.CtxRefIdeal.defs _ _).mono (fun r h => ⟨fun c => (h c).2, sem_eq_zero_of_no_sems (by decide) r.2⟩)
    (Cert.CtxRefIdeal.Value.run (F := Ideal) m ρ)

/-- The named constant is the literal the kernel scales its scores by. -/
theorem preserves : Cert.preserves_Ctx_CtxIdeal :=
  IdealRules.named_const.statement Cert.CtxIdeal.κ "attn_scale" .f32 0x3DB504F3#32 (((Real.sqrt 128)⁻¹ : ℝ) : EReal) rfl

/-- Kernel and reference end with one function of the arguments. -/
theorem algebraic : Cert.algebraic_CtxIdeal_CtxRefIdeal := by
  intro m ρ m' ρ' _ hag
  refine ⟨fun c => Cert.CtxIdeal.Attn.attn (m ((c.tc : Thread _ _).loc Cert.CtxIdeal.main_arg0))
    (m ((c.tc : Thread _ _).loc Cert.CtxIdeal.main_arg1)) (m ((c.tc : Thread _ _).loc Cert.CtxIdeal.main_arg2)), ?_, ?_⟩
  · exact (θ_run Cert.CtxIdeal.defs _ _).mono
      (fun _ h c => ⟨(h c).1.trans (Cert.CtxIdeal.Attn.final m c), (h c).2⟩)
      (Cert.CtxIdeal.Value.run_blocks (F := Ideal) m ρ)
  refine (θ_run Cert.CtxRefIdeal.defs _ _).mono (fun _ h c => ⟨(h c).1.trans ?_, (h c).2⟩)
    (Cert.CtxRefIdeal.Value.run (F := Ideal) m' ρ')
  refine (Cert.CtxRefIdeal.Attn.result m' c).trans ?_
  rw [(hag c).1, (hag c).2.1, (hag c).2.2]

end Cert.Proof.CtxClaims

end
-- ==== Proof.InProj.lean ====
/- The input projection: the tiled product of the kernel is the one product of the reference; and the new keys and values cut
   from it. -/
module

public import proofs.«01_k».proof.Defs
public import proofs.«01_k».proof.Proof.Gen.InProj.Frame
public import proofs.«01_k».proof.Proof.Gen.InProjIdeal.Run
public import proofs.«01_k».proof.Proof.Gen.InProjRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Product

open Cert.InProjIdeal Cert.InProjIdeal.Gen

variable (m : (ℓ : Loc nD τ sig) → Buf (Elt Ideal) ℓ)

/-- The product of the two argument arrays, element by element. -/
def prod (h : FVec Ideal S10240x4096 .bf16) (w : FVec Ideal S4096x9216 .f32) : FVec Ideal S10240x9216 .f32 :=
  fun i => ∑ k : Fin 4096, h (ix2 (i 0) k) * w (ix2 k (i 1))

/-- Which block of each array a grid point works on. -/
theorem idx : ∀ t : Fin grid0.N, win0_0.index t = ![t.val % 10, 0] ∧ win0_1.index t = ![0, t.val / 10]
    ∧ win0_2.index t = ![t.val % 10, t.val / 10] := by decide +kernel

/-- After the run the result array holds the product. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, prod]
  have h := idx t
  blk_point [iblk, V, h.1, h.2.1, h.2.2]

/-- The context's rows of 512 columns of the projection, from column `o` on, by sequence, token, head and lane. -/
def cut (o : Nat) (ho : o ≤ 8704) (p : FVec Ideal S10240x9216 .f32) : FVec Ideal S32x256x4x128 .f32 := fun i =>
  p (ix2 ⟨(i 0).val * 256 + (i 1).val, by have := (i 0).isLt; have := (i 1).isLt; simp at *; omega⟩
    ⟨o + ((i 2).val * 128 + (i 3).val), by have := (i 2).isLt; have := (i 3).isLt; simp at *; omega⟩)

end Cert.InProjIdeal.Product

namespace Cert.Proof.InProjClaims

/-- The kernel terminates without fault and leaves its arguments and the semaphores as they were. -/
theorem frame_p : Cert.quiescent_InProj := fun m ρ _ => Cert.InProj.Gen.frame m ρ
/-- So does its idealization, -/
theorem frame_pi : Cert.quiescent_InProjIdeal := fun m ρ _ => Cert.InProjIdeal.Gen.frame m ρ
/-- and the reference. -/
theorem frame_ri : Cert.quiescent_InProjRefIdeal := fun m ρ _ =>
  (θ_run Cert.InProjRefIdeal.defs _ _).mono (fun r h => ⟨fun c => (h c).2.2.2, sem_eq_zero_of_no_sems (by decide) r.2⟩)
    (Cert.InProjRefIdeal.Value.run (F := Ideal) m ρ)
/-- The idealization rewrote nothing. -/
theorem preserves : Cert.preserves_InProj_InProjIdeal := trivial
/-- Over the extended reals kernel and reference compute the same three arrays. -/
theorem algebraic : Cert.algebraic_InProjIdeal_InProjRefIdeal := by
  intro m ρ m' ρ' _ hag
  let P := fun c : Dev Cert.InProjIdeal.nD => Cert.InProjIdeal.Product.prod (m ((c.tc : Thread _ _).loc Cert.InProjIdeal.main_arg0))
    (m ((c.tc : Thread _ _).loc Cert.InProjIdeal.main_arg1))
  have hP : ∀ c, Cert.InProjIdeal.Value.reg_main_v1 m c = P c := Cert.InProjIdeal.Product.final m
  refine ⟨P, fun c => Cert.InProjIdeal.Product.cut 8192 (by omega) (P c),
    fun c => Cert.InProjIdeal.Product.cut 8704 (by omega) (P c), ?_, ?_⟩
  · refine (θ_run Cert.InProjIdeal.defs _ _).mono (fun _ h c => ⟨(h c).1.trans (hP c), (h c).2.1.trans ?_, (h c).2.2.1.trans ?_,
      (h c).2.2.2⟩) (Cert.InProjIdeal.Value.run (F := Ideal) m ρ)
    all_goals
      rw [hP]
      funext i
      idx_vars i
      pointwise [Cert.InProjIdeal.Product.cut]
  refine (θ_run Cert.InProjRefIdeal.defs _ _).mono (fun _ h c => ⟨(h c).1.trans ?_, (h c).2.1.trans ?_, (h c).2.2.1.trans ?_,
    (h c).2.2.2⟩) (Cert.InProjRefIdeal.Value.run (F := Ideal) m' ρ')
  all_goals
    rw [(hag c).1, (hag c).2]
    funext i
    idx_vars i
    pointwise [P, Cert.InProjIdeal.Product.prod, Cert.InProjIdeal.Product.cut]

end Cert.Proof.InProjClaims

end
-- ==== Proof.Down.lean ====
module

public import proofs.«01_k».proof.Defs
public import proofs.«01_k».proof.Proof.Gen.Down.Frame
public import proofs.«01_k».proof.Proof.Gen.DownIdeal.Value
public import proofs.«01_k».proof.Proof.Gen.DownRefIdeal.Run
public import proofs.«01_k».proof.Proof.Common
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownIdeal.Gated

open Cert.Common Cert.DownIdeal Cert.DownIdeal.Gen

variable (m : (ℓ : Loc nD τ sig) → Buf (Elt Ideal) ℓ)

/-- The residual plus the gate times the product with the weights. -/
def gated (a : FVec Ideal S10240x11008 .bf16) (w : FVec Ideal S11008x4096 .f32) (x : FVec Ideal S10240x4096 .f32)
    (g : FVec Ideal S8x24576 .f32) : FVec Ideal S10240x4096 .f32 := fun i =>
  x i + g (ix2 (gateRow (i 0)) ⟨20480 + (i 1).val, by have := (i 1).isLt; simp at this; omega⟩)
    * ∑ k : Fin 11008, a (ix2 (i 0) k) * w (ix2 k (i 1))

/-- The blocks each grid point takes, by its number. -/
theorem idx : ∀ t : Fin grid0.N, win0_0.index t = ![t.val % 20, 0] ∧ win0_1.index t = ![0, t.val / 20]
    ∧ win0_2.index t = ![t.val % 20, t.val / 20] ∧ win0_3.index t = ![0, 40 + t.val / 20]
    ∧ win0_4.index t = ![t.val % 20, t.val / 20] := by decide +kernel

/-- The gate's row at a grid point. -/
theorem row : ∀ t : Fin grid0.N, k0_off1 (grid0.coords t)
    = ![if t.val % 20 * 512 < 8192 then 0 else 1 + (t.val % 20 * 512 - 8192) / 1024, 0] := by decide +kernel

/-- The result holds the gated product at the kernel's exit. -/
theorem final (c : Dev nD) : (dats m 0 c).arrAt 4 (cfgs 0).N
    = gated (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  idx_vars y
  pointwise [k0_pay1, gated]
  have h := idx t
  have ht : t.val < 160 := t.isLt
  have he : ((View.whole main_v1).slice (win0_4.rect t)).emb (ix2 y0 y1)
      = ix2 ⟨t.val % 20 * 512 + y0.val, by omega⟩ ⟨t.val / 20 * 512 + y1.val, by omega⟩ := by
    blk_ext [h.2.2.2.2]
  have hr := row t
  have hg := gateRow_block (t.val % 20 * 512) y0.val (by omega) (by omega)
  rw [he]
  blk_point [iblk, V, h.1, h.2.1, h.2.2, hr]
  exact hg.symm

end Cert.DownIdeal.Gated

namespace Cert.DownRefIdeal.Gated

open Cert.Common Cert.DownRefIdeal Cert.DownRefIdeal.Gen

/-- The gate's rows spread over the tokens. -/
def spread (g : FVec Ideal S8x24576 .f32) : FVec Ideal S10240x4096 .f32 :=
  concatenate S10240x4096 0 [⟨S8192x4096, (broadcastInDim S8192x4096 ![1] bcast_S4096_S8192x4096_1
      (shapeCast _ (extractStridedSlice S1x4096 ![0, 0] (extractStridedSlice S8x4096 ![0, 20480] g
        slices_S8x24576_S8x4096_0_20480) slices_S8x4096_S1x4096_0_0) shapeCasts_S1x4096_S4096))⟩,
    ⟨S2048x4096, (shapeCast _ (broadcastInDim S2x1024x4096 ![0, 1, 2] bcast_S2x1x4096_S2x1024x4096_0_1_2
      (broadcastInDim S2x1x4096 ![0, 2] bcast_S2x4096_S2x1x4096_0_2 (extractStridedSlice S2x4096 ![1, 0]
        (extractStridedSlice S8x4096 ![0, 20480] g slices_S8x24576_S8x4096_0_20480) slices_S8x4096_S2x4096_1_0)))
      shapeCasts_S2x1024x4096_S2048x4096)⟩] concatenates_S8192x4096_S2048x4096_S10240x4096_d0

/-- A token's gate is the modulation at its row. -/
theorem spread_apply (g : FVec Ideal S8x24576 .f32) (r : Fin 10240) (k : Fin 4096) : spread g (ix2 r k)
    = g (ix2 (gateRow r) ⟨20480 + k.val, by omega⟩) := by
  pointwise [spread]
  unfold gateRow
  by_cases h : r.val < 8192
  · rw [dif_pos h, if_pos h]
  · rw [dif_neg h, if_neg h]

end Cert.DownRefIdeal.Gated

namespace Cert.Proof.DownClaims

/-- The kernel computes without a fault and leaves its operands. -/
theorem frame_p : Cert.quiescent_Down := fun m ρ _ => Cert.Down.Gen.frame m ρ

/-- So does the idealized kernel. -/
theorem frame_pi : Cert.quiescent_DownIdeal := fun m ρ _ => Cert.DownIdeal.Gen.frame m ρ

/-- So does the reference. -/
theorem frame_ri : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The kernel has no literal that idealization names. -/
theorem preserves : Cert.preserves_Down_DownIdeal := trivial

/-- The idealized kernel and the reference leave the same result: the residual plus the gate times the product. -/
theorem algebraic : Cert.algebraic_DownIdeal_DownRefIdeal := by
  intro m ρ m' ρ' _ hag
  refine ⟨fun c => Cert.DownIdeal.Gated.gated (m ((c.tc : Thread _ _).loc Cert.DownIdeal.main_arg0))
    (m ((c.tc : Thread _ _).loc Cert.DownIdeal.main_arg1)) (m ((c.tc : Thread _ _).loc Cert.DownIdeal.main_arg2))
    (m ((c.tc : Thread _ _).loc Cert.DownIdeal.main_arg3)), ?_, ?_⟩
  · exact (θ_run Cert.DownIdeal.defs _ _).mono
      (fun _ h c => ⟨(h c).1.trans (Cert.DownIdeal.Gated.final m c), (h c).2⟩)
      (Cert.DownIdeal.Value.run_blocks (F := Ideal) m ρ)
  refine (θ_run Cert.DownRefIdeal.defs _ _).mono (fun _ h c => ⟨(h c).1.trans ?_, (h c).2⟩)
    (Cert.DownRefIdeal.Value.run (F := Ideal) m' ρ')
  rw [(hag c).1, (hag c).2.1, (hag c).2.2.1, (hag c).2.2.2]
  funext i
  idx_vars i
  have hs := Cert.DownRefIdeal.Gated.spread_apply (m ((c.tc : Thread _ _).loc Cert.DownIdeal.main_arg3)) i0 i1
  unfold Cert.DownRefIdeal.Gated.spread at hs
  pointwise [Cert.DownIdeal.Gated.gated, hs]

end Cert.Proof.DownClaims

end
-- ==== Proof.OutProj.lean ====
module

public import proofs.«01_k».proof.Defs
public import proofs.«01_k».proof.Proof.Gen.OutProj.Frame
public import proofs.«01_k».proof.Proof.Gen.OutProjIdeal.Value
public import proofs.«01_k».proof.Proof.Gen.OutProjRefIdeal.Run
public import proofs.«01_k».proof.Proof.Common
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Gated

open Cert.Common Cert.OutProjIdeal Cert.OutProjIdeal.Gen

variable (m : (ℓ : Loc nD τ sig) → Buf (Elt Ideal) ℓ)

/-- The residual plus the gate times the product of the two mixers' results with the weights. -/
def gated (a b : FVec Ideal S10240x2048 .bf16) (w : FVec Ideal S4096x4096 .f32) (x : FVec Ideal S10240x4096 .f32)
    (g : FVec Ideal S8x24576 .f32) : FVec Ideal S10240x4096 .f32 := fun i =>
  x i + g (ix2 (gateRow (i 0)) ⟨8192 + (i 1).val, by have := (i 1).isLt; simp at this; omega⟩)
    * (∑ k : Fin 2048, a (ix2 (i 0) k) * w (ix2 ⟨k.val, by omega⟩ (i 1))
      + ∑ k : Fin 2048, b (ix2 (i 0) k) * w (ix2 ⟨2048 + k.val, by omega⟩ (i 1)))

/-- The blocks each grid point takes, by its number. -/
theorem idx : ∀ t : Fin grid0.N, win0_0.index t = ![t.val % 10, 0] ∧ win0_1.index t = ![t.val % 10, 0]
    ∧ win0_2.index t = ![0, t.val / 10] ∧ win0_3.index t = ![t.val % 10, t.val / 10]
    ∧ win0_4.index t = ![0, 16 + t.val / 10] ∧ win0_5.index t = ![t.val % 10, t.val / 10] := by decide +kernel

/-- The gate's row at a grid point. -/
theorem row : ∀ t : Fin grid0.N, k0_off1 (grid0.coords t)
    = ![if t.val % 10 * 1024 < 8192 then 0 else 1 + (t.val % 10 * 1024 - 8192) / 1024, 0] := by decide +kernel

/-- The result holds the gated product at the kernel's exit. -/
theorem final (c : Dev nD) : (dats m 0 c).arrAt 5 (cfgs 0).N
    = gated (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_covers 5 _ (by decide +kernel) fun t hf y => ?_
  blk_simp
  rw [after0_5]
  unfold outsAt0
  frame_out
  idx_vars y
  pointwise [k0_pay1, k0_pay2, gated]
  have h := idx t
  have ht : t.val < 80 := t.isLt
  have he : ((View.whole main_v1).slice (win0_5.rect t)).emb (ix2 y0 y1)
      = ix2 ⟨t.val % 10 * 1024 + y0.val, by omega⟩ ⟨t.val / 10 * 512 + y1.val, by omega⟩ := by
    blk_ext [h.2.2.2.2.2]
  have hr := row t
  have hg := gateRow_block (t.val % 10 * 1024) y0.val (by omega) (by omega)
  rw [he]
  blk_point [iblk, V, h.1, h.2.1, h.2.2.1, h.2.2.2.1, h.2.2.2.2, hr]
  exact hg.symm

end Cert.OutProjIdeal.Gated

namespace Cert.OutProjRefIdeal.Gated

open Cert.Common Cert.OutProjRefIdeal Cert.OutProjRefIdeal.Gen

/-- The gate's rows spread over the tokens. -/
def spread (g : FVec Ideal S8x24576 .f32) : FVec Ideal S10240x4096 .f32 :=
  concatenate S10240x4096 0 [⟨S8192x4096, (broadcastInDim S8192x4096 ![1] bcast_S4096_S8192x4096_1
      (shapeCast _ (extractStridedSlice S1x4096 ![0, 0] (extractStridedSlice S8x4096 ![0, 8192] g
        slices_S8x24576_S8x4096_0_8192) slices_S8x4096_S1x4096_0_0) shapeCasts_S1x4096_S4096))⟩,
    ⟨S2048x4096, (shapeCast _ (broadcastInDim S2x1024x4096 ![0, 1, 2] bcast_S2x1x4096_S2x1024x4096_0_1_2
      (broadcastInDim S2x1x4096 ![0, 2] bcast_S2x4096_S2x1x4096_0_2 (extractStridedSlice S2x4096 ![1, 0]
        (extractStridedSlice S8x4096 ![0, 8192] g slices_S8x24576_S8x4096_0_8192) slices_S8x4096_S2x4096_1_0)))
      shapeCasts_S2x1024x4096_S2048x4096)⟩] concatenates_S8192x4096_S2048x4096_S10240x4096_d0

/-- A token's gate is the modulation at its row. -/
theorem spread_apply (g : FVec Ideal S8x24576 .f32) (r : Fin 10240) (k : Fin 4096) : spread g (ix2 r k)
    = g (ix2 (gateRow r) ⟨8192 + k.val, by omega⟩) := by
  pointwise [spread]
  unfold gateRow
  by_cases h : r.val < 8192
  · rw [dif_pos h, if_pos h]
  · rw [dif_neg h, if_neg h]

end Cert.OutProjRefIdeal.Gated

namespace Cert.Proof.OutProjClaims

/-- The kernel computes without a fault and leaves its operands. -/
theorem frame_p : Cert.quiescent_OutProj := fun m ρ _ => Cert.OutProj.Gen.frame m ρ

/-- So does the idealized kernel. -/
theorem frame_pi : Cert.quiescent_OutProjIdeal := fun m ρ _ => Cert.OutProjIdeal.Gen.frame m ρ

/-- So does the reference. -/
theorem frame_ri : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- The kernel has no literal that idealization names. -/
theorem preserves : Cert.preserves_OutProj_OutProjIdeal := trivial

/-- The idealized kernel and the reference leave the same result: the residual plus the gate times the product. -/
theorem algebraic : Cert.algebraic_OutProjIdeal_OutProjRefIdeal := by
  intro m ρ m' ρ' _ hag
  refine ⟨fun c => Cert.OutProjIdeal.Gated.gated (m ((c.tc : Thread _ _).loc Cert.OutProjIdeal.main_arg0))
    (m ((c.tc : Thread _ _).loc Cert.OutProjIdeal.main_arg1)) (m ((c.tc : Thread _ _).loc Cert.OutProjIdeal.main_arg2))
    (m ((c.tc : Thread _ _).loc Cert.OutProjIdeal.main_arg3)) (m ((c.tc : Thread _ _).loc Cert.OutProjIdeal.main_arg4)), ?_, ?_⟩
  · exact (θ_run Cert.OutProjIdeal.defs _ _).mono
      (fun _ h c => ⟨(h c).1.trans (Cert.OutProjIdeal.Gated.final m c), (h c).2⟩)
      (Cert.OutProjIdeal.Value.run_blocks (F := Ideal) m ρ)
  refine (θ_run Cert.OutProjRefIdeal.defs _ _).mono (fun _ h c => ⟨(h c).1.trans ?_, (h c).2⟩)
    (Cert.OutProjRefIdeal.Value.run (F := Ideal) m' ρ')
  rw [(hag c).1, (hag c).2.1, (hag c).2.2.1, (hag c).2.2.2.1, (hag c).2.2.2.2]
  funext i
  idx_vars i
  have hs := Cert.OutProjRefIdeal.Gated.spread_apply (m ((c.tc : Thread _ _).loc Cert.OutProjIdeal.main_arg4)) i0 i1
  unfold Cert.OutProjRefIdeal.Gated.spread at hs
  pointwise [Cert.OutProjIdeal.Gated.gated, hs]

end Cert.Proof.OutProjClaims

end
-- ==== Proof.Up.lean ====
module

public import proofs.«01_k».proof.Defs
public import proofs.«01_k».proof.Proof.Gen.Up.Frame
public import proofs.«01_k».proof.Proof.Gen.UpIdeal.Value
public import proofs.«01_k».proof.Proof.Gen.UpRefIdeal.Run
public import proofs.«01_k».proof.Proof.Common
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpIdeal.Feed

open Cert.Common Cert.UpIdeal Cert.UpIdeal.Gen

variable (m : (ℓ : Loc nD τ sig) → Buf (Elt Ideal) ℓ)

/-- The blocks each grid point takes, by its number. -/
theorem idx : ∀ t : Fin grid0.N, win0_0.index t = ![t.val % 10, 0] ∧ win0_1.index t = ![0, t.val / 10]
    ∧ win0_2.index t = ![0, 43 + t.val / 10]
    ∧ win0_3.index t = ![0, t.val / 10] ∧ win0_4.index t = ![0, 43 + t.val / 10]
    ∧ win0_5.index t = ![0, t.val / 10] ∧ win0_6.index t = ![0, 43 + t.val / 10]
    ∧ win0_7.index t = ![t.val % 10, t.val / 10] := by decide +kernel

/-- The length of the sequence a token belongs to: 256 for the context's, 1024 for the latents'. -/
def seqLen (r : Nat) : Nat := if r < 8192 then 256 else 1024

/-- A convolution of width three along sequences of length `L`, at row `r`: zeros stand before a sequence's first
    row and after its last. -/
def conv3 (L : Nat) (p : Nat → EReal) (c0 c1 c2 b : EReal) (r : Nat) : EReal :=
  (if r % L = 0 then 0 else p (r - 1)) * c0 + p r * c1 + (if r % L + 1 = L then 0 else p (r + 1)) * c2 + b

/-- The convolution sees only the sequence it runs in: a stretch of whole sequences may be read on its own. -/
theorem conv3_shift (L n s y : Nat) (hL : 0 < L) (hn : n % L = 0) (hs : s % L = 0) (hy : y < n) (p q : Nat → EReal)
    (h : ∀ j, j < n → p j = q (s + j)) (c0 c1 c2 b : EReal) :
    conv3 L p c0 c1 c2 b y = conv3 L q c0 c1 c2 b (s + y) := by
  have hm : (s + y) % L = y % L := by rw [Nat.add_mod, hs, Nat.zero_add, Nat.mod_mod]
  unfold conv3
  rw [hm, h y hy]
  have e1 : (if y % L = 0 then 0 else p (y - 1)) = (if y % L = 0 then 0 else q (s + y - 1)) := by
    split_ifs with h0
    · rfl
    · have : y ≠ 0 := fun e => h0 (by rw [e, Nat.zero_mod])
      rw [h (y - 1) (by omega), show s + (y - 1) = s + y - 1 by omega]
  have e2 : (if y % L + 1 = L then 0 else p (y + 1)) = (if y % L + 1 = L then 0 else q (s + y + 1)) := by
    split_ifs with h0
    · rfl
    · have : y + 1 ≠ n := fun e => h0 (by
        have h1 : (y + 1) % L = 0 := e ▸ hn
        have h2 := Nat.mod_lt y hL
        rcases Nat.lt_or_ge (y % L + 1) L with h3 | h3
        · rw [Nat.add_mod, Nat.mod_eq_of_lt (a := 1) (by omega), Nat.mod_eq_of_lt h3] at h1; omega
        · omega)
      rw [h (y + 1) (by omega), show s + (y + 1) = s + y + 1 by omega]
  rw [e1, e2]

/-- A column of the up-projection. -/
def proj (h : FVec Ideal S10240x4096 .bf16) (w : FVec Ideal S4096x22016 .f32) (k : Fin 22016) (r : Nat) : EReal :=
  ∑ d : Fin 4096, h (ix2 (Fin.ofNat 10240 r) d) * w (ix2 d k)

/-- A column of the up-projection after its convolution. -/
def mixed (h : FVec Ideal S10240x4096 .bf16) (w : FVec Ideal S4096x22016 .f32) (cw : FVec Ideal S22016x3 .f32)
    (b : FVec Ideal S22016 .f32) (k : Fin 22016) (r : Nat) : EReal :=
  conv3 (seqLen r) (proj h w k) (cw (ix2 k 0)) (cw (ix2 k 1)) (cw (ix2 k 2)) (b (ix1 k)) r

/-- The gated activation of a gate and a value. -/
def silu (g v : EReal) : EReal := g * Ideal.logistic g * v

/-- The feed-forward part's hidden units. -/
def units (h : FVec Ideal S10240x4096 .bf16) (w : FVec Ideal S4096x22016 .f32) (cw : FVec Ideal S22016x3 .f32)
    (b : FVec Ideal S22016 .f32) : FVec Ideal S10240x11008 .bf16 := fun i =>
  silu (mixed h w cw b ⟨(i 1).val, by have := (i 1).isLt; simp at this; omega⟩ (i 0).val)
    (mixed h w cw b ⟨11008 + (i 1).val, by have := (i 1).isLt; simp at this; omega⟩ (i 0).val)

/-- The length of the sequences in a grid point's block. -/
theorem len : ∀ t : Fin grid0.N, Scalar.select (Scalar.cmpi CmpIPredicate.slt (Scalar.muli
    (BitVec.ofNat 32 (grid0.coords t 1).val) 1024#32) 8192#32) 256#32 1024#32
      = if t.val % 10 < 8 then 256#32 else 1024#32 := by decide +kernel

/-- The bit that masks a row's predecessor is off at a sequence's first row alone. -/
theorem first_bits : ∀ y : Fin 1024, ∀ b : Bool, IntOp.cmpi CmpIPredicate.ne (IntOp.andi (BitVec.ofNat 32 y.val)
    (Scalar.subi (if b then 256#32 else 1024#32) 1#32)) 0#32
      = if y.val % (if b then 256 else 1024) = 0 then 0#1 else 1#1 := by decide +kernel

/-- The bit that masks a row's successor is off at a sequence's last row alone. -/
theorem last_bits : ∀ y : Fin 1024, ∀ b : Bool, IntOp.cmpi CmpIPredicate.ne (IntOp.andi (BitVec.ofNat 32 y.val)
    (Scalar.subi (if b then 256#32 else 1024#32) 1#32)) (Scalar.subi (if b then 256#32 else 1024#32) 1#32)
      = if y.val % (if b then 256 else 1024) + 1 = (if b then 256 else 1024) then 0#1 else 1#1 := by decide +kernel

/-- The first mask is off at the first row of a sequence. -/
theorem first_apply (t : Fin grid0.N) (y : Fin 1024) : k0_pay3 (grid0.coords t) (ix2 y 0)
    = if y.val % (if t.val % 10 < 8 then 256 else 1024) = 0 then 0#1 else 1#1 := by
  have h := first_bits y (decide (t.val % 10 < 8))
  simp only [decide_eq_true_eq] at h
  pointwise [k0_pay3, k0_pay2]
  rw [len t]
  exact h

/-- The second mask is off at the last. -/
theorem last_apply (t : Fin grid0.N) (y : Fin 1024) : k0_pay4 (grid0.coords t) (ix2 y 0)
    = if y.val % (if t.val % 10 < 8 then 256 else 1024) + 1 = (if t.val % 10 < 8 then 256 else 1024)
      then 0#1 else 1#1 := by
  have h := last_bits y (decide (t.val % 10 < 8))
  simp only [decide_eq_true_eq] at h
  pointwise [k0_pay4, k0_pay2]
  rw [len t]
  exact h

/-- A row of the block's product. -/
def rowOf (h : FVec Ideal S1024x4096 .bf16) (w : FVec Ideal S4096x256 .bf16) (x : Fin 256) (r : Nat) : EReal :=
  ∑ d : Fin 4096, h (ix2 (Fin.ofNat 1024 r) d) * w (ix2 d x)

/-- A row of the product, at a column. -/
theorem rowOf_val (h : FVec Ideal S1024x4096 .bf16) (w : FVec Ideal S4096x256 .bf16) (x : Fin 256) (y : Fin 1024) :
    ∑ d : Fin 4096, h (ix2 y d) * w (ix2 d x) = rowOf h w x y.val := by
  unfold rowOf
  rw [show Fin.ofNat 1024 y.val = y from Fin.ext (Nat.mod_eq_of_lt y.isLt)]

/-- A masked product is the product of the masked factor. -/
theorem select_mul (C : Prop) [Decidable C] (a b c : EReal) (h : ¬C → a = b) :
    Scalar.select (if C then 0#1 else 1#1) (a * c) 0 = (if C then 0 else b) * c := by
  by_cases hC : C
  · rw [if_pos hC, if_pos hC, zero_mul]; rfl
  · rw [if_neg hC, if_neg hC, h hC]; rfl

/-- The product at an index. -/
theorem prod_apply (h : FVec Ideal S1024x4096 .bf16) (w : FVec Ideal S4096x256 .bf16) (y : Fin 1024) (x : Fin 256) :
    k0_pay5 (F := Ideal) h w (ix2 y x) = rowOf h w x y.val := by
  pointwise [k0_pay5]
  exact rowOf_val h w x y

/-- What a grid point stores: both halves convolved along the block's sequences, then gated. -/
theorem stored_apply (t : Fin grid0.N) (h : FVec Ideal S1024x4096 .bf16) (wg wv : FVec Ideal S4096x256 .bf16)
    (cg cv : FVec Ideal S3x256 .f32) (bg bv : FVec Ideal S1x256 .f32) (y : Fin 1024) (x : Fin 256) :
    k0_pay1 (F := Ideal) (k0_pay3 (grid0.coords t)) (k0_pay4 (grid0.coords t)) h (k0_pay7 bg)
      (k0_pay8 (grid0.coords t) h wg) (k0_pay9 (grid0.coords t) h wg cg) (k0_pay10 cg) wv cv bv (ix2 y x)
      = silu (conv3 (if t.val % 10 < 8 then 256 else 1024) (rowOf h wg x) (cg (ix2 0 x)) (cg (ix2 1 x)) (cg (ix2 2 x))
          (bg (ix2 0 x)) y.val)
        (conv3 (if t.val % 10 < 8 then 256 else 1024) (rowOf h wv x) (cv (ix2 0 x)) (cv (ix2 1 x)) (cv (ix2 2 x))
          (bv (ix2 0 x)) y.val) := by
  have e : ∀ y : Fin 1024, ∑ d : Fin 4096, h (ix2 y d) * wv (ix2 d x) = rowOf h wv x y.val := rowOf_val h wv x
  have hy := y.isLt
  have hp : ∀ (w : FVec Ideal S4096x256 .bf16), ¬ y.val % (if t.val % 10 < 8 then 256 else 1024) = 0 →
      rowOf h w x ((y.val + 1024 - 1) % 1024) = rowOf h w x (y.val - 1) := fun w hn => by
    have : y.val ≠ 0 := fun e0 => hn (by rw [e0, Nat.zero_mod])
    rw [show (y.val + 1024 - 1) % 1024 = y.val - 1 by omega]
  have hq : ∀ (w : FVec Ideal S4096x256 .bf16), ¬ y.val % (if t.val % 10 < 8 then 256 else 1024) + 1
      = (if t.val % 10 < 8 then 256 else 1024) →
      rowOf h w x ((y.val + 1024 - 1023) % 1024) = rowOf h w x (y.val + 1) := fun w hn => by
    have : y.val ≠ 1023 := fun e0 => hn (by rw [e0]; split_ifs <;> rfl)
    rw [show (y.val + 1024 - 1023) % 1024 = y.val + 1 by omega]
  pointwise [k0_pay1, k0_pay6, k0_pay7, k0_pay8, k0_pay9, k0_pay10, prod_apply]
  simp only [e]
  rw [first_apply, last_apply, select_mul _ _ _ _ (hp wg), select_mul _ _ _ _ (hp wv), select_mul _ _ _ _ (hq wg),
    select_mul _ _ _ _ (hq wv)]
  rfl

/-- The result holds the hidden units at the kernel's exit. -/
theorem final (c : Dev nD) : (dats m 0 c).arrAt 7 (cfgs 0).N
    = units (m ((c : Thread nD τ).loc main_arg0)) (m ((c : Thread nD τ).loc main_arg1))
      (m ((c : Thread nD τ).loc main_arg2)) (m ((c : Thread nD τ).loc main_arg3)) := by
  refine (dats m 0 c).arrAt_eq_of_covers 7 _ (by decide +kernel) fun t hf y => ?_
  blk_simp
  rw [after0_7]
  frame_out
  idx_vars y
  pointwise []
  rw [stored_apply]
  have h := idx t
  have ht : t.val < 430 := t.isLt
  have he : ((View.whole main_v3).slice (win0_7.rect t)).emb (ix2 y0 y1)
      = ix2 ⟨t.val % 10 * 1024 + y0.val, by omega⟩ ⟨t.val / 10 * 256 + y1.val, by omega⟩ := by
    blk_ext [h.2.2.2.2.2.2.2]
  rw [he]
  have hl : seqLen (t.val % 10 * 1024 + y0.val) = if t.val % 10 < 8 then 256 else 1024 := by
    unfold seqLen; split_ifs <;> omega
  have hm : t.val % 10 * 1024 % (if t.val % 10 < 8 then 256 else 1024) = 0 := by split_ifs <;> omega
  have hg : ∀ j, j < 1024 → rowOf (iblk m c 0 t) (iblk m c 1 t) y1 j
      = proj (m ((c : Thread nD τ).loc main_arg0)) (m ((c : Thread nD τ).loc main_arg1))
        ⟨t.val / 10 * 256 + y1.val, by omega⟩ (t.val % 10 * 1024 + j) := fun j hj => by
    unfold rowOf proj
    blk_point [iblk, V, h.1, h.2.1]
    simp only [Fin.val_ofNat]; omega
  have hv : ∀ j, j < 1024 → rowOf (iblk m c 0 t) (iblk m c 2 t) y1 j
      = proj (m ((c : Thread nD τ).loc main_arg0)) (m ((c : Thread nD τ).loc main_arg1))
        ⟨11008 + (t.val / 10 * 256 + y1.val), by omega⟩ (t.val % 10 * 1024 + j) := fun j hj => by
    unfold rowOf proj
    blk_point [iblk, V, h.1, h.2.2.1]
    simp only [Fin.val_ofNat]; omega
  rw [conv3_shift _ 1024 (t.val % 10 * 1024) y0.val (by split_ifs <;> omega) (by split_ifs <;> rfl) hm y0.isLt _ _ hg,
    conv3_shift _ 1024 (t.val % 10 * 1024) y0.val (by split_ifs <;> omega) (by split_ifs <;> rfl) hm y0.isLt _ _ hv]
  have c3 : ∀ j : Fin 3, iblk m c 3 t (ix2 j y1)
      = m ((c : Thread nD τ).loc main_arg2) (ix2 ⟨t.val / 10 * 256 + y1.val, by omega⟩ j) := fun j => by
    blk_point [iblk, V, h.2.2.2.1]
  have c4 : ∀ j : Fin 3, iblk m c 4 t (ix2 j y1)
      = m ((c : Thread nD τ).loc main_arg2) (ix2 ⟨11008 + (t.val / 10 * 256 + y1.val), by omega⟩ j) := fun j => by
    blk_point [iblk, V, h.2.2.2.2.1]
  have c5 : iblk m c 5 t (ix2 0 y1)
      = m ((c : Thread nD τ).loc main_arg3) (ix1 ⟨t.val / 10 * 256 + y1.val, by omega⟩) := by
    blk_point [iblk, V, h.2.2.2.2.2.1]
  have c6 : iblk m c 6 t (ix2 0 y1)
      = m ((c : Thread nD τ).loc main_arg3) (ix1 ⟨11008 + (t.val / 10 * 256 + y1.val), by omega⟩) := by
    blk_point [iblk, V, h.2.2.2.2.2.2.1]
  rw [c3, c3, c3, c4, c4, c4, c5, c6]
  unfold units mixed
  rw [show ((ix2 (⟨t.val % 10 * 1024 + y0.val, by omega⟩ : Fin 10240) (⟨t.val / 10 * 256 + y1.val, by omega⟩
    : Fin 11008)) 0).val = t.val % 10 * 1024 + y0.val from rfl, hl]
  rfl

end Cert.UpIdeal.Feed

namespace Cert.UpRefIdeal.Feed

open Cert.Common Cert.UpRefIdeal Cert.UpRefIdeal.Gen Cert.UpIdeal.Feed

/-- The convolution of a sequence that is padded by a zero at either end. -/
theorem conv3_padded (L : Nat) [NeZero L] (p : Fin L → EReal) (y : Fin L) (z c0 c1 c2 b : EReal) (hz : z = 0) :
    (if h : 1 ≤ y.val ∧ y.val - 1 < L then p ⟨y.val - 1, h.2⟩ else z) * c0 + p y * c1
        + (if h : 1 ≤ 2 + y.val ∧ 2 + y.val - 1 < L then p ⟨2 + y.val - 1, h.2⟩ else z) * c2 + b
      = conv3 L (fun r => p (Fin.ofNat L r)) c0 c1 c2 b y.val := by
  have hy := y.isLt
  have e : ∀ (j : Nat) (hj : j < L), p (Fin.ofNat L j) = p ⟨j, hj⟩ := fun j hj =>
    congrArg p (Fin.ext (Nat.mod_eq_of_lt hj))
  unfold conv3
  rw [Nat.mod_eq_of_lt hy, hz]
  congr 2
  · congr 2
    · split_ifs with h1 h2 h2
      · omega
      · exact (e _ h1.2).symm
      · rfl
      · omega
    · exact (e _ hy).symm
  · congr 1
    split_ifs with h1 h2 h2
    · omega
    · refine Eq.trans ?_ (e _ (by omega)).symm
      exact congrArg p (Fin.ext (by simp only; omega))
    · rfl
    · omega

/-- The whole number zero converts to zero. -/
theorem zero_bits : FloatOps.sitofp (F := Ideal) FTy.f32 0#32 = (0 : EReal) := by
  show ((((0#32 : BitVec 32).toInt : ℤ) : ℝ) : EReal) = 0
  simp

/-- The up-projection of the context tokens, by sequence. -/
def ctxProj (h : FVec Ideal S10240x4096 .bf16) (w : FVec Ideal S4096x22016 .f32) : FVec Ideal S32x256x22016 .f32 :=
  Host.dotGeneral dot_S32x256x4096_S4096x22016_S32x256x22016_2_0_01_1_n_n none
    (shapeCast _ (extractStridedSlice S8192x4096 ![0, 0] (extf .f32 h bitsLt_bf16_f32) slices_S10240x4096_S8192x4096_0_0)
      shapeCasts_S8192x4096_S32x256x4096) w

/-- Its convolution along the sequences. -/
def ctxConv (p : FVec Ideal S32x256x22016 .f32) (cw : FVec Ideal S22016x3 .f32) (b : FVec Ideal S22016 .f32) :
    FVec Ideal S32x256x22016 .f32 :=
  addf (addf (addf
    (mulf (extractStridedSlice S32x256x22016 ![0, 0, 0] (pad S32x258x22016 ![0, 1, 0] ![0, 1, 0] ![0, 0, 0] p
        (sitofp .f32 (constantI S_ 32 0#32)) pads_S32x256x22016_S32x258x22016_000_110_000 h_S_)
        slices_S32x258x22016_S32x256x22016_0_0_0)
      (broadcastInDim S32x256x22016 ![0, 1, 2] bcast_S1x1x22016_S32x256x22016_0_1_2
        (broadcastInDim S1x1x22016 ![2] bcast_S22016_S1x1x22016_2 (shapeCast _ (extractStridedSlice S22016x1 ![0, 0] cw
          slices_S22016x3_S22016x1_0_0) shapeCasts_S22016x1_S22016))))
    (mulf (extractStridedSlice S32x256x22016 ![0, 1, 0] (pad S32x258x22016 ![0, 1, 0] ![0, 1, 0] ![0, 0, 0] p
        (sitofp .f32 (constantI S_ 32 0#32)) pads_S32x256x22016_S32x258x22016_000_110_000 h_S_)
        slices_S32x258x22016_S32x256x22016_0_1_0)
      (broadcastInDim S32x256x22016 ![0, 1, 2] bcast_S1x1x22016_S32x256x22016_0_1_2
        (broadcastInDim S1x1x22016 ![2] bcast_S22016_S1x1x22016_2 (shapeCast _ (extractStridedSlice S22016x1 ![0, 1] cw
          slices_S22016x3_S22016x1_0_1) shapeCasts_S22016x1_S22016)))))
    (mulf (extractStridedSlice S32x256x22016 ![0, 2, 0] (pad S32x258x22016 ![0, 1, 0] ![0, 1, 0] ![0, 0, 0] p
        (sitofp .f32 (constantI S_ 32 0#32)) pads_S32x256x22016_S32x258x22016_000_110_000 h_S_)
        slices_S32x258x22016_S32x256x22016_0_2_0)
      (broadcastInDim S32x256x22016 ![0, 1, 2] bcast_S1x1x22016_S32x256x22016_0_1_2
        (broadcastInDim S1x1x22016 ![2] bcast_S22016_S1x1x22016_2 (shapeCast _ (extractStridedSlice S22016x1 ![0, 2] cw
          slices_S22016x3_S22016x1_0_2) shapeCasts_S22016x1_S22016)))))
    (broadcastInDim S32x256x22016 ![0, 1, 2] bcast_S1x1x22016_S32x256x22016_0_1_2
      (broadcastInDim S1x1x22016 ![2] bcast_S22016_S1x1x22016_2 b))

/-- Their hidden units, by token. -/
def ctxHidden (u : FVec Ideal S32x256x22016 .f32) : FVec Ideal S8192x11008 .f32 :=
  shapeCast _ (mulf (mulf (extractStridedSlice S32x256x11008 ![0, 0, 0] u slices_S32x256x22016_S32x256x11008_0_0_0)
      (Host.divf (broadcastInDim S32x256x11008 ![] bcast_S_S32x256x11008 (constant S_ .f32 0x3F800000#32))
        (addf (broadcastInDim S32x256x11008 ![] bcast_S_S32x256x11008 (constant S_ .f32 0x3F800000#32))
          (Host.exp (Host.negf (extractStridedSlice S32x256x11008 ![0, 0, 0] u
            slices_S32x256x22016_S32x256x11008_0_0_0))))))
    (extractStridedSlice S32x256x11008 ![0, 0, 11008] u slices_S32x256x22016_S32x256x11008_0_0_11008))
    shapeCasts_S32x256x11008_S8192x11008

/-- The context's projection at an index. -/
theorem ctxProj_apply (h : FVec Ideal S10240x4096 .bf16) (w : FVec Ideal S4096x22016 .f32) (s : Fin 32) (y : Fin 256)
    (k : Fin 22016) : ctxProj h w (ix3 s y k) = proj h w k (s.val * 256 + y.val) := by
  pointwise [ctxProj, proj]
  refine Finset.sum_congr rfl fun d _ => congrArg (· * _) (congrArg h (congrArg (ix2 · d) (Fin.ext ?_)))
  simp only [Fin.val_ofNat]
  omega

/-- The context's convolution at an index. -/
theorem ctxConv_apply (p : FVec Ideal S32x256x22016 .f32) (cw : FVec Ideal S22016x3 .f32) (b : FVec Ideal S22016 .f32)
    (s : Fin 32) (y : Fin 256) (k : Fin 22016) : ctxConv p cw b (ix3 s y k)
      = conv3 256 (fun r => p (ix3 s (Fin.ofNat 256 r) k)) (cw (ix2 k 0)) (cw (ix2 k 1)) (cw (ix2 k 2)) (b (ix1 k))
        y.val := by
  pointwise [ctxConv]
  exact conv3_padded 256 (fun r => p (ix3 s r k)) y _ _ _ _ _ zero_bits

/-- Their convolution is the target's. -/
theorem ctxMixed (h : FVec Ideal S10240x4096 .bf16) (w : FVec Ideal S4096x22016 .f32) (cw : FVec Ideal S22016x3 .f32)
    (b : FVec Ideal S22016 .f32) (s : Fin 32) (y : Fin 256) (k : Fin 22016) :
    ctxConv (ctxProj h w) cw b (ix3 s y k) = mixed h w cw b k (s.val * 256 + y.val) := by
  have hl : seqLen (s.val * 256 + y.val) = 256 := by unfold seqLen; split_ifs <;> omega
  rw [ctxConv_apply, mixed, hl]
  refine conv3_shift 256 256 (s.val * 256) y.val (by omega) (by omega) (by omega) y.isLt _ _ (fun j hj => ?_) _ _ _ _
  simp only [ctxProj_apply, Fin.val_ofNat, Nat.mod_eq_of_lt hj]

/-- The context's gated activation at an index. -/
theorem ctxHidden_apply (u : FVec Ideal S32x256x22016 .f32) (r : Fin 8192) (k : Fin 11008) : ctxHidden u (ix2 r k)
    = silu (u (ix3 ⟨r.val / 256, by omega⟩ ⟨r.val % 256, by omega⟩ ⟨k.val, by omega⟩))
      (u (ix3 ⟨r.val / 256, by omega⟩ ⟨r.val % 256, by omega⟩ ⟨11008 + k.val, by omega⟩)) := by
  pointwise [ctxHidden, silu]
  rfl

/-- The up-projection of the latent tokens, by sequence. -/
def latProj (h : FVec Ideal S10240x4096 .bf16) (w : FVec Ideal S4096x22016 .f32) : FVec Ideal S2x1024x22016 .f32 :=
  Host.dotGeneral dot_S2x1024x4096_S4096x22016_S2x1024x22016_2_0_01_1_n_n none
    (shapeCast _ (extractStridedSlice S2048x4096 ![8192, 0] (extf .f32 h bitsLt_bf16_f32) slices_S10240x4096_S2048x4096_8192_0)
      shapeCasts_S2048x4096_S2x1024x4096) w

/-- Its convolution along the sequences. -/
def latConv (p : FVec Ideal S2x1024x22016 .f32) (cw : FVec Ideal S22016x3 .f32) (b : FVec Ideal S22016 .f32) :
    FVec Ideal S2x1024x22016 .f32 :=
  addf (addf (addf
    (mulf (extractStridedSlice S2x1024x22016 ![0, 0, 0] (pad S2x1026x22016 ![0, 1, 0] ![0, 1, 0] ![0, 0, 0] p
        (sitofp .f32 (constantI S_ 32 0#32)) pads_S2x1024x22016_S2x1026x22016_000_110_000 h_S_)
        slices_S2x1026x22016_S2x1024x22016_0_0_0)
      (broadcastInDim S2x1024x22016 ![0, 1, 2] bcast_S1x1x22016_S2x1024x22016_0_1_2
        (broadcastInDim S1x1x22016 ![2] bcast_S22016_S1x1x22016_2 (shapeCast _ (extractStridedSlice S22016x1 ![0, 0] cw
          slices_S22016x3_S22016x1_0_0) shapeCasts_S22016x1_S22016))))
    (mulf (extractStridedSlice S2x1024x22016 ![0, 1, 0] (pad S2x1026x22016 ![0, 1, 0] ![0, 1, 0] ![0, 0, 0] p
        (sitofp .f32 (constantI S_ 32 0#32)) pads_S2x1024x22016_S2x1026x22016_000_110_000 h_S_)
        slices_S2x1026x22016_S2x1024x22016_0_1_0)
      (broadcastInDim S2x1024x22016 ![0, 1, 2] bcast_S1x1x22016_S2x1024x22016_0_1_2
        (broadcastInDim S1x1x22016 ![2] bcast_S22016_S1x1x22016_2 (shapeCast _ (extractStridedSlice S22016x1 ![0, 1] cw
          slices_S22016x3_S22016x1_0_1) shapeCasts_S22016x1_S22016)))))
    (mulf (extractStridedSlice S2x1024x22016 ![0, 2, 0] (pad S2x1026x22016 ![0, 1, 0] ![0, 1, 0] ![0, 0, 0] p
        (sitofp .f32 (constantI S_ 32 0#32)) pads_S2x1024x22016_S2x1026x22016_000_110_000 h_S_)
        slices_S2x1026x22016_S2x1024x22016_0_2_0)
      (broadcastInDim S2x1024x22016 ![0, 1, 2] bcast_S1x1x22016_S2x1024x22016_0_1_2
        (broadcastInDim S1x1x22016 ![2] bcast_S22016_S1x1x22016_2 (shapeCast _ (extractStridedSlice S22016x1 ![0, 2] cw
          slices_S22016x3_S22016x1_0_2) shapeCasts_S22016x1_S22016)))))
    (broadcastInDim S2x1024x22016 ![0, 1, 2] bcast_S1x1x22016_S2x1024x22016_0_1_2
      (broadcastInDim S1x1x22016 ![2] bcast_S22016_S1x1x22016_2 b))

/-- Their hidden units, by token. -/
def latHidden (u : FVec Ideal S2x1024x22016 .f32) : FVec Ideal S2048x11008 .f32 :=
  shapeCast _ (mulf (mulf (extractStridedSlice S2x1024x11008 ![0, 0, 0] u slices_S2x1024x22016_S2x1024x11008_0_0_0)
      (Host.divf (broadcastInDim S2x1024x11008 ![] bcast_S_S2x1024x11008 (constant S_ .f32 0x3F800000#32))
        (addf (broadcastInDim S2x1024x11008 ![] bcast_S_S2x1024x11008 (constant S_ .f32 0x3F800000#32))
          (Host.exp (Host.negf (extractStridedSlice S2x1024x11008 ![0, 0, 0] u
            slices_S2x1024x22016_S2x1024x11008_0_0_0))))))
    (extractStridedSlice S2x1024x11008 ![0, 0, 11008] u slices_S2x1024x22016_S2x1024x11008_0_0_11008))
    shapeCasts_S2x1024x11008_S2048x11008

/-- The latents' projection at an index. -/
theorem latProj_apply (h : FVec Ideal S10240x4096 .bf16) (w : FVec Ideal S4096x22016 .f32) (s : Fin 2) (y : Fin 1024)
    (k : Fin 22016) : latProj h w (ix3 s y k) = proj h w k (8192 + s.val * 1024 + y.val) := by
  pointwise [latProj, proj]
  refine Finset.sum_congr rfl fun d _ => congrArg (· * _) (congrArg h (congrArg (ix2 · d) (Fin.ext ?_)))
  simp only [Fin.val_ofNat]
  omega

/-- The latents' convolution at an index. -/
theorem latConv_apply (p : FVec Ideal S2x1024x22016 .f32) (cw : FVec Ideal S22016x3 .f32) (b : FVec Ideal S22016 .f32)
    (s : Fin 2) (y : Fin 1024) (k : Fin 22016) : latConv p cw b (ix3 s y k)
      = conv3 1024 (fun r => p (ix3 s (Fin.ofNat 1024 r) k)) (cw (ix2 k 0)) (cw (ix2 k 1)) (cw (ix2 k 2)) (b (ix1 k))
        y.val := by
  pointwise [latConv]
  exact conv3_padded 1024 (fun r => p (ix3 s r k)) y _ _ _ _ _ zero_bits

/-- Their convolution is the target's. -/
theorem latMixed (h : FVec Ideal S10240x4096 .bf16) (w : FVec Ideal S4096x22016 .f32) (cw : FVec Ideal S22016x3 .f32)
    (b : FVec Ideal S22016 .f32) (s : Fin 2) (y : Fin 1024) (k : Fin 22016) :
    latConv (latProj h w) cw b (ix3 s y k) = mixed h w cw b k (8192 + s.val * 1024 + y.val) := by
  have hl : seqLen (8192 + s.val * 1024 + y.val) = 1024 := by unfold seqLen; split_ifs <;> omega
  rw [latConv_apply, mixed, hl]
  refine conv3_shift 1024 1024 (8192 + s.val * 1024) y.val (by omega) (by omega) (by omega) y.isLt _ _ (fun j hj => ?_) _ _ _ _
  simp only [latProj_apply, Fin.val_ofNat, Nat.mod_eq_of_lt hj]

/-- The latents' gated activation at an index. -/
theorem latHidden_apply (u : FVec Ideal S2x1024x22016 .f32) (r : Fin 2048) (k : Fin 11008) : latHidden u (ix2 r k)
    = silu (u (ix3 ⟨r.val / 1024, by omega⟩ ⟨r.val % 1024, by omega⟩ ⟨k.val, by omega⟩))
      (u (ix3 ⟨r.val / 1024, by omega⟩ ⟨r.val % 1024, by omega⟩ ⟨11008 + k.val, by omega⟩)) := by
  pointwise [latHidden, silu]
  rfl

/-- The whole result, the context's tokens before the latents'. -/
def joined (a : FVec Ideal S8192x11008 .f32) (b : FVec Ideal S2048x11008 .f32) : FVec Ideal S10240x11008 .bf16 :=
  truncf .bf16 (concatenate S10240x11008 0 [⟨S8192x11008, a⟩, ⟨S2048x11008, b⟩]
    concatenates_S8192x11008_S2048x11008_S10240x11008_d0) bitsLt_bf16_f32

/-- Context and latents one below the other, at an index. -/
theorem joined_apply (a : FVec Ideal S8192x11008 .f32) (b : FVec Ideal S2048x11008 .f32) (r : Fin 10240)
    (k : Fin 11008) : joined a b (ix2 r k)
      = if h : r.val < 8192 then a (ix2 ⟨r.val, h⟩ k) else b (ix2 ⟨r.val - 8192, by omega⟩ k) := by
  pointwise [joined]

set_option maxRecDepth 65536 in
/-- The run's result is these stages, one after another. -/
theorem result_eq (m : (ℓ : Loc nD τ sig) → Buf (Elt Ideal) ℓ) (c : Dev nD) :
    Value.res_out0 m c = joined
      (ctxHidden (ctxConv (ctxProj (m ((c.tc : Thread nD τ).loc main_arg0)) (m ((c.tc : Thread nD τ).loc main_arg1)))
        (m ((c.tc : Thread nD τ).loc main_arg2)) (m ((c.tc : Thread nD τ).loc main_arg3))))
      (latHidden (latConv (latProj (m ((c.tc : Thread nD τ).loc main_arg0)) (m ((c.tc : Thread nD τ).loc main_arg1)))
        (m ((c.tc : Thread nD τ).loc main_arg2)) (m ((c.tc : Thread nD τ).loc main_arg3)))) := rfl

/-- The reference's result is the hidden units. -/
theorem result (m : (ℓ : Loc nD τ sig) → Buf (Elt Ideal) ℓ) (c : Dev nD) : Value.res_out0 m c
    = units (m ((c.tc : Thread nD τ).loc main_arg0)) (m ((c.tc : Thread nD τ).loc main_arg1))
      (m ((c.tc : Thread nD τ).loc main_arg2)) (m ((c.tc : Thread nD τ).loc main_arg3)) := by
  rw [result_eq]
  funext i
  idx_vars i
  rw [joined_apply]
  unfold units
  show _ = silu (mixed _ _ _ _ ⟨i1.val, _⟩ i0.val) (mixed _ _ _ _ ⟨11008 + i1.val, _⟩ i0.val)
  by_cases h : i0.val < 8192
  · rw [dif_pos h, ctxHidden_apply, ctxMixed, ctxMixed]
    simp only [show i0.val / 256 * 256 + i0.val % 256 = i0.val by omega]
  · rw [dif_neg h, latHidden_apply, latMixed, latMixed]
    simp only [show 8192 + (i0.val - 8192) / 1024 * 1024 + (i0.val - 8192) % 1024 = i0.val by omega]

end Cert.UpRefIdeal.Feed

namespace Cert.Proof.UpClaims

/-- The kernel computes without a fault and leaves its operands. -/
theorem frame_p : Cert.quiescent_Up := fun m ρ _ => Cert.Up.Gen.frame m ρ

/-- So does the idealized kernel. -/
theorem frame_pi : Cert.quiescent_UpIdeal := fun m ρ _ => Cert.UpIdeal.Gen.frame m ρ

/-- So does the reference. -/
theorem frame_ri : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- The kernel has no literal that idealization names. -/
theorem preserves : Cert.preserves_Up_UpIdeal := trivial

/-- The idealized kernel and the reference leave the same result: the hidden units of the feed-forward part. -/
theorem algebraic : Cert.algebraic_UpIdeal_UpRefIdeal := by
  intro m ρ m' ρ' _ hag
  refine ⟨fun c => Cert.UpIdeal.Feed.units (m ((c.tc : Thread _ _).loc Cert.UpIdeal.main_arg0))
    (m ((c.tc : Thread _ _).loc Cert.UpIdeal.main_arg1)) (m ((c.tc : Thread _ _).loc Cert.UpIdeal.main_arg2))
    (m ((c.tc : Thread _ _).loc Cert.UpIdeal.main_arg3)), ?_, ?_⟩
  · exact (θ_run Cert.UpIdeal.defs _ _).mono
      (fun _ h c => ⟨(h c).1.trans (Cert.UpIdeal.Feed.final m c), (h c).2⟩)
      (Cert.UpIdeal.Value.run_blocks (F := Ideal) m ρ)
  refine (θ_run Cert.UpRefIdeal.defs _ _).mono (fun _ h c => ⟨(h c).1.trans ?_, (h c).2⟩)
    (Cert.UpRefIdeal.Value.run (F := Ideal) m' ρ')
  refine (Cert.UpRefIdeal.Feed.result m' c).trans ?_
  rw [(hag c).1, (hag c).2.1, (hag c).2.2.1, (hag c).2.2.2]

end Cert.Proof.UpClaims

end
-- ==== Proof.Window.lean ====
/- Attention of one query over two families of keys and a sink, on the extended reals: when all but a window of the first
   family is masked, the window alone gives the same. Masked keys weigh nothing as long as the weights' sum is not zero, which
   finite scores and a finite sink ensure. -/
module

public import proofs.«01_k».proof.Proof.Common

@[expose] public section

noncomputable section

namespace Cert.Common

open Idealize.ShloMosaic

variable {ι κ ι' : Type} [Fintype ι] [Fintype κ] [Fintype ι']

/-- The greatest of the scores `s` and `u` and of the sink `sk`. -/
def peak (s : ι → EReal) (u : κ → EReal) (sk : EReal) : EReal := max (max (top s) (top u)) sk

/-- The sum of the exponentials of the scores' and the sink's distances below their greatest. -/
def mass (s : ι → EReal) (u : κ → EReal) (sk : EReal) : EReal :=
  (∑ j, Ideal.exp (s j - peak s u sk)) + (∑ k, Ideal.exp (u k - peak s u sk)) + Ideal.exp (sk - peak s u sk)

/-- Attention of one query: the softmax of the scores `s`, `u` and the sink `sk`, the sink's weight dropped, weighing the
    values `v` and `w`. -/
def attTwo (s : ι → EReal) (u : κ → EReal) (sk : EReal) (v : ι → EReal) (w : κ → EReal) : EReal :=
  (∑ j, Ideal.div (Ideal.exp (s j - peak s u sk)) (mass s u sk) * v j)
    + ∑ k, Ideal.div (Ideal.exp (u k - peak s u sk)) (mass s u sk) * w k

/-- An exponential is not negative. -/
theorem exp_nonneg (x : EReal) : 0 ≤ Ideal.exp x := by
  induction x with
  | bot => exact le_refl _
  | top => exact le_top
  | coe r => exact EReal.coe_nonneg.mpr (Real.exp_pos r).le

/-- Nothing is below `⊥`. -/
theorem exp_bot_sub (x : EReal) : Ideal.exp (⊥ - x) = 0 := by
  rw [sub_eq_add_neg, EReal.bot_add, Ideal.exp_bot]

/-- Finite scores and a finite sink have a mass. -/
theorem mass_ne_zero (s : ι → EReal) (u : κ → EReal) (x : ℝ) (hs : ∀ j, s j ≠ ⊤) (hu : ∀ k, u k ≠ ⊤) :
    mass s u x ≠ 0 := by
  have hp : peak s u x ≠ ⊤ := by
    have h1 : top s ≠ ⊤ := by
      unfold top
      refine (lt_top_iff_ne_top.mp ?_)
      rw [Finset.fold_max_lt]
      exact ⟨bot_lt_top, fun j _ => lt_top_iff_ne_top.mpr (hs j)⟩
    have h2 : top u ≠ ⊤ := by
      unfold top
      refine (lt_top_iff_ne_top.mp ?_)
      rw [Finset.fold_max_lt]
      exact ⟨bot_lt_top, fun j _ => lt_top_iff_ne_top.mpr (hu j)⟩
    unfold peak
    exact (lt_top_iff_ne_top.mp (max_lt (max_lt h1.lt_top h2.lt_top) (EReal.coe_lt_top x)))
  have hb : peak s u x ≠ ⊥ := fun h => absurd (h ▸ le_max_right (max (top s) (top u)) (x : EReal) : (x : EReal) ≤ ⊥)
    (not_le.mpr (EReal.bot_lt_coe x))
  have hpos : 0 < Ideal.exp ((x : EReal) - peak s u x) := by
    lift peak s u x to ℝ using ⟨hp, hb⟩ with y
    rw [← EReal.coe_sub, Ideal.exp_coe]
    exact EReal.coe_pos.mpr (Real.exp_pos _)
  unfold mass
  exact (lt_of_lt_of_le hpos (le_add_of_nonneg_left
    (add_nonneg (Finset.sum_nonneg fun _ _ => exp_nonneg _) (Finset.sum_nonneg fun _ _ => exp_nonneg _)))).ne'

/-- A sum over all keys is a sum over a window outside of which nothing is summed. -/
theorem sum_window (e : ι → ι') (he : Function.Injective e) (f : ι' → EReal) (h0 : ∀ j, (∀ i, e i ≠ j) → f j = 0) :
    ∑ j, f j = ∑ i, f (e i) := by
  classical
  rw [← Finset.sum_image (s := Finset.univ) (g := e) (f := f) (fun _ _ _ _ h => he h)]
  refine (Finset.sum_subset (Finset.subset_univ _) fun j _ hj => h0 j fun i hi => hj ?_).symm
  exact Finset.mem_image.mpr ⟨i, Finset.mem_univ _, hi⟩

/-- The greatest over all keys is the greatest over a window outside of which all is masked. -/
theorem top_window (e : ι → ι') (s : ι' → EReal) (h0 : ∀ j, (∀ i, e i ≠ j) → s j = ⊥) : top s = top fun i => s (e i) := by
  refine eq_of_forall_ge_iff fun c => ?_
  rw [top_le, top_le]
  refine ⟨fun h i => h _, fun h j => ?_⟩
  by_cases hj : ∃ i, e i = j
  · obtain ⟨i, rfl⟩ := hj
    exact h i
  · rw [h0 j fun i hi => hj ⟨i, hi⟩]
    exact bot_le

/-- Attention over all keys is attention over a window outside of which all keys are masked. -/
theorem attTwo_window (e : ι → ι') (he : Function.Injective e) (s : ι' → EReal) (u : κ → EReal) (x : ℝ)
    (v : ι' → EReal) (w : κ → EReal) (h0 : ∀ j, (∀ i, e i ≠ j) → s j = ⊥) (hs : ∀ j, s j ≠ ⊤) (hu : ∀ k, u k ≠ ⊤) :
    attTwo s u x v w = attTwo (fun i => s (e i)) u x (fun i => v (e i)) w := by
  have hp : peak s u x = peak (fun i => s (e i)) u x := by
    unfold peak
    rw [top_window e s h0]
  have hm : mass s u x = mass (fun i => s (e i)) u x := by
    unfold mass
    rw [sum_window e he (fun j => Ideal.exp (s j - peak s u x)) fun j hj => by rw [h0 j hj, exp_bot_sub], hp]
  have hz := mass_ne_zero s u x hs hu
  unfold attTwo
  rw [sum_window e he (fun j => Ideal.div (Ideal.exp (s j - peak s u x)) (mass s u x) * v j) fun j hj => by
    rw [h0 j hj, exp_bot_sub, Ideal.div, if_neg hz, zero_mul, zero_mul], hm, hp]

/-- The softmax over two families of scores and the sink after them, its last weight dropped, weighing the values. -/
theorem sum_soft_two {n k : ℕ} (s : Fin (n + k + 1) → EReal) (v : Fin n → EReal) (w : Fin k → EReal) :
    (∑ j : Fin n, v j * soft s (j.castAdd k).castSucc) + ∑ j : Fin k, w j * soft s (j.natAdd n).castSucc
      = attTwo (fun j : Fin n => s (j.castAdd k).castSucc) (fun j : Fin k => s (j.natAdd n).castSucc) (s (Fin.last _)) v w := by
  have hp : top s = peak (fun j : Fin n => s (j.castAdd k).castSucc) (fun j : Fin k => s (j.natAdd n).castSucc)
      (s (Fin.last _)) := by
    refine eq_of_forall_ge_iff fun c => ?_
    unfold peak
    rw [top_le, max_le_iff, max_le_iff, top_le, top_le, Fin.forall_fin_succ']
    refine and_congr_left fun _ => ⟨fun h => ⟨fun j => h _, fun j => h _⟩, fun h j => ?_⟩
    induction j using Fin.addCases with
    | left j => exact h.1 j
    | right j => exact h.2 j
  unfold attTwo soft mass
  rw [hp, Fin.sum_univ_castSucc, Fin.sum_univ_add]
  exact congrArg₂ (· + ·) (Finset.sum_congr rfl fun j _ => mul_comm _ _) (Finset.sum_congr rfl fun j _ => mul_comm _ _)

end Cert.Common

end
-- ==== Proof.Rope.lean ====
module

public import proofs.«01_k».proof.Defs
public import proofs.«01_k».proof.Proof.Common
public import proofs.«01_k».proof.Proof.Gen.LatIdeal.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Spatial

/-- The rate of rotation number `k` of 32. -/
def rate (k : Fin 32) : EReal :=
  Ideal.pow (Ideal.ofBits .f32 0x461C4000#32) (Ideal.div (-(((BitVec.ofNat 32 k.val).toInt : ℝ) : EReal)) (Ideal.ofBits .f32 0x42000000#32))

/-- A whole number as the programs convert it. -/
def whole (n : ℕ) : EReal := (((BitVec.ofNat 32 n).toInt : ℝ) : EReal)

/-- The angle of lane `d` of token `r`: the first 64 lanes turn with the token's row on the square of 32 by 64, the others
    with its column. -/
def angle (r : Fin 1024) (d : Fin 128) : EReal :=
  (if d.val < 64 then whole (r.val / 64) else whole (r.val % 64)) * rate ⟨d.val % 32, by omega⟩

/-- A token's 128 numbers turned: each pair of lanes 32 apart by its angle. -/
def rope (r : Fin 1024) (x : Fin 128 → EReal) (d : Fin 128) : EReal :=
  x d * Ideal.cos (angle r d) + if d.val % 64 < 32 then -(x ⟨(d.val + 32) % 128, by omega⟩ * Ideal.sin (angle r d))
    else x ⟨(d.val + 96) % 128, by omega⟩ * Ideal.sin (angle r d)

/-- Being a real number. -/
def Real' (x : EReal) : Prop := ∃ r : ℝ, x = (r : EReal)

/-- A product of real numbers is real. -/
theorem Real'.mul {x y : EReal} (hx : Real' x) (hy : Real' y) : Real' (x * y) := by
  obtain ⟨a, rfl⟩ := hx
  obtain ⟨b, rfl⟩ := hy
  exact ⟨a * b, (EReal.coe_mul a b).symm⟩

/-- A sum of real numbers is real. -/
theorem Real'.add {x y : EReal} (hx : Real' x) (hy : Real' y) : Real' (x + y) := by
  obtain ⟨a, rfl⟩ := hx
  obtain ⟨b, rfl⟩ := hy
  exact ⟨a + b, (EReal.coe_add a b).symm⟩

/-- A real number's negative is real. -/
theorem Real'.neg {x : EReal} (hx : Real' x) : Real' (-x) := by
  obtain ⟨a, rfl⟩ := hx
  exact ⟨-a, (EReal.coe_neg a).symm⟩

/-- A finite sum of real numbers is real. -/
theorem Real'.sum {n : ℕ} (f : Fin n → EReal) (h : ∀ i, Real' (f i)) : Real' (∑ i, f i) :=
  Finset.sum_induction f Real' (fun _ _ hx hy => hx.add hy) ⟨0, rfl⟩ fun i _ => h i

/-- A real number is not `⊤`. -/
theorem Real'.ne_top {x : EReal} (hx : Real' x) : x ≠ ⊤ := by
  obtain ⟨a, rfl⟩ := hx
  exact EReal.coe_ne_top a

/-- The rates are real. -/
theorem rate_real (k : Fin 32) : Real' (rate k) := by
  have h1 : Ideal.ofBits .f32 0x461C4000#32 = ((10000 : ℝ) : EReal) := by
    simp [Ideal.ofBits, Ideal.ieee, -EReal.coe_mul]; norm_num
  have h2 : Ideal.ofBits .f32 0x42000000#32 = ((32 : ℝ) : EReal) := by
    simp [Ideal.ofBits, Ideal.ieee, -EReal.coe_mul]; norm_num
  unfold rate
  rw [h1, h2, ← EReal.coe_neg, Ideal.div_coe (by norm_num), ← EReal.coe_mul]
  exact ⟨_, rfl⟩

/-- The angles are real. -/
theorem angle_real (r : Fin 1024) (d : Fin 128) : Real' (angle r d) := by
  unfold angle
  refine Real'.mul ?_ (rate_real _)
  split <;> exact ⟨_, rfl⟩

/-- Real numbers turned are real. -/
theorem rope_real (r : Fin 1024) (x : Fin 128 → EReal) (hx : ∀ d, Real' (x d)) (d : Fin 128) : Real' (rope r x d) := by
  unfold rope
  obtain ⟨a, ha⟩ := angle_real r d
  rw [ha]
  refine ((hx _).mul ⟨_, rfl⟩).add ?_
  split
  · exact ((hx _).mul ⟨_, rfl⟩).neg
  · exact (hx _).mul ⟨_, rfl⟩

end Cert.Spatial

namespace Cert.LatIdeal.Rope

open Cert.LatIdeal Cert.LatIdeal.Gen

variable (m : (ℓ : Loc nD τ sig) → Buf (Elt Ideal) ℓ)

/-- A whole number at every place of a row of 1024. -/
abbrev rep (n : BitVec 32) : IVec S1024 32 := broadcastInDim S1024 ![] bcast_S_S1024 (constantI S_ 32 n)

/-- A whole number at every place of a row of 128. -/
abbrev rep' (n : BitVec 32) : IVec S128 32 := broadcastInDim S128 ![] bcast_S_S128 (constantI S_ 32 n)

/-- A token's row on the square: its place by 64, rounded down, as the host divides. -/
def rowInt : IVec S1024 32 :=
  let x : IVec S1024 32 := iotaInDim S1024 32 0
  let q := Host.divsi x (rep 64#32)
  select (andi (cmpi .ne (signi x) (broadcastInDim S1024 ![] bcast_S_S1024 (signi (constantI S_ 32 64#32))))
      (cmpi .ne (Host.remsi x (rep 64#32)) (rep 0#32)))
    (subi q (rep 1#32)) q

/-- A divisor as the host's remainder takes it: one in place of zero. -/
def divisor (n : BitVec 32) : IVec S_ 32 :=
  select (cmpi .eq (constantI S_ 32 n) (constantI S_ 32 0#32)) (constantI S_ 32 1#32) (constantI S_ 32 n)

/-- A token's column on the square: the remainder of its place by 64. -/
def colInt : IVec S1024 32 :=
  let q := Host.remsi (iotaInDim S1024 32 0) (broadcastInDim S1024 ![] bcast_S_S1024 (divisor 64#32))
  select (andi (cmpi .ne (cmpi .slt q (rep 0#32)) (broadcastInDim S1024 ![] bcast_S_S1024 (cmpi .slt (divisor 64#32) (constantI S_ 32 0#32))))
      (cmpi .ne q (rep 0#32)))
    (addi q (broadcastInDim S1024 ![] bcast_S_S1024 (divisor 64#32))) q

/-- A lane's remainder by `n`. -/
def laneInt (n : BitVec 32) : IVec S128 32 :=
  let q := Host.remsi (iotaInDim S128 32 0) (broadcastInDim S128 ![] bcast_S_S128 (divisor n))
  select (andi (cmpi .ne (cmpi .slt q (rep' 0#32)) (broadcastInDim S128 ![] bcast_S_S128 (cmpi .slt (divisor n) (constantI S_ 32 0#32))))
      (cmpi .ne q (rep' 0#32)))
    (addi q (broadcastInDim S128 ![] bcast_S_S128 (divisor n))) q

/-- The 32 rates. -/
def rates : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- The rate of each lane, gathered. -/
def laneRate : FVec Ideal S128 .f32 :=
  Host.gather gather_S32_S128x1_S128_n_0_n_n_0_1_1 rates (broadcastInDim S128x1 ![0] bcast_S128_S128x1_0
    (select (cmpi .slt (laneInt 32#32) (rep' 0#32)) (addi (laneInt 32#32) (rep' 32#32)) (laneInt 32#32)))

/-- The angles. -/
def angles : FVec Ideal S1024x128 .f32 :=
  mulf (select (broadcastInDim S1024x128 ![0, 1] bcast_S1x128_S1024x128_0_1 (broadcastInDim S1x128 ![1] bcast_S128_S1x128_1
        (cmpi .slt (iotaInDim S128 32 0) (rep' 64#32))))
      (broadcastInDim S1024x128 ![0, 1] bcast_S1024x1_S1024x128_0_1 (broadcastInDim S1024x1 ![0] bcast_S1024_S1024x1_0 (sitofp .f32 rowInt)))
      (broadcastInDim S1024x128 ![0, 1] bcast_S1024x1_S1024x128_0_1 (broadcastInDim S1024x1 ![0] bcast_S1024_S1024x1_0 (sitofp .f32 colInt))))
    (broadcastInDim S1024x128 ![0, 1] bcast_S1x128_S1024x128_0_1 (broadcastInDim S1x128 ![1] bcast_S128_S1x128_1 laneRate))

/-- Which lanes are in the first half of their rotation. -/
def lower : IVec S1024x128 1 :=
  broadcastInDim S1024x128 ![0, 1] bcast_S1x128_S1024x128_0_1 (broadcastInDim S1x128 ![1] bcast_S128_S1x128_1
    (cmpi .slt (laneInt 64#32) (rep' 32#32)))

/-- Zero at every place of a table. -/
abbrev zeros : FVec Ideal S1024x128 .f32 := broadcastInDim S1024x128 ![] bcast_S_S1024x128 (constant S_ .f32 0x00000000#32)

/-- The whole-number tables at an index. -/
theorem rowInt_apply : ∀ r : Fin 1024, rowInt (ix1 r) = BitVec.ofNat 32 (r.val / 64) := by decide +kernel

/-- The columns at an index. -/
theorem colInt_apply : ∀ r : Fin 1024, colInt (ix1 r) = BitVec.ofNat 32 (r.val % 64) := by decide +kernel

/-- Where a lane's rate is gathered from. -/
def laneAt : IVec S128x1 32 := broadcastInDim S128x1 ![0] bcast_S128_S128x1_0
    (select (cmpi .slt (laneInt 32#32) (rep' 0#32)) (addi (laneInt 32#32) (rep' 32#32)) (laneInt 32#32))

/-- The rate gathered for a lane. -/
theorem laneAt_val : ∀ d : Fin 128, (gather_S32_S128x1_S128_n_0_n_n_0_1_1.operandIdx (ix1 d) laneAt 0).val = d.val % 32 := by
  decide +kernel

/-- Which lanes turn with the row, at an index. -/
theorem first_apply : ∀ d : Fin 128, cmpi .slt (iotaInDim S128 32 0) (rep' 64#32) (ix1 d) = if d.val < 64 then 1#1 else 0#1 := by
  decide +kernel

/-- Which lanes are in the first half of their rotation, at an index. -/
theorem lower_lane : ∀ d : Fin 128, cmpi .slt (laneInt 64#32) (rep' 32#32) (ix1 d) = if d.val % 64 < 32 then 1#1 else 0#1 := by
  decide +kernel

/-- What the host leaves as the table of cosines. -/
theorem v35 (c : Dev nD) : V m c main_v35 = Host.cos angles := by
  unfold V
  after_reads_simp
  rfl

/-- What the host leaves as the sines. -/
theorem v36 (c : Dev nD) : V m c main_v36 = Host.sin angles := by
  unfold V
  after_reads_simp
  rfl

/-- What the host leaves as the choice of lanes. -/
theorem v34 (c : Dev nD) : V m c main_v34
    = broadcastInDim S1x128 ![1] bcast_S128_S1x128_1 (cmpi .slt (laneInt 64#32) (rep' 32#32)) := by
  unfold V
  after_reads_simp
  rfl

/-- What the host leaves as the table of the first halves' sines, negated. -/
theorem v38 (c : Dev nD) : V m c main_v38 = select lower (Host.negf (Host.sin angles)) zeros := by
  have h : V m c main_v38 = select (broadcastInDim S1024x128 ![0, 1] bcast_S1x128_S1024x128_0_1 (V m c main_v34))
      (Host.negf (V m c main_v36)) zeros := by
    unfold V
    after_reads_simp
    rfl
  rw [h, v34, v36]
  rfl

/-- What the host leaves as the table of the second halves' sines. -/
theorem v39 (c : Dev nD) : V m c main_v39 = select lower zeros (Host.sin angles) := by
  have h : V m c main_v39 = select (broadcastInDim S1024x128 ![0, 1] bcast_S1x128_S1024x128_0_1 (V m c main_v34))
      zeros (V m c main_v36) := by
    unfold V
    after_reads_simp
    rfl
  rw [h, v34, v36]
  rfl

/-- A rate at an index. -/
theorem rates_apply (k : Fin 32) : rates (ix1 k) = Cert.Spatial.rate k := by
  have h : rates (ix1 k) = Ideal.pow (Ideal.ofBits .f32 0x461C4000#32) (Ideal.div (-(FloatOps.sitofp (F := Ideal) .f32 (BitVec.ofNat 32 k.val)))
      (Ideal.ofBits .f32 0x42000000#32)) := by pointwise [rates]
  exact h

/-- A lane's rate at an index. -/
theorem laneRate_apply (d : Fin 128) : laneRate (ix1 d) = Cert.Spatial.rate ⟨d.val % 32, by omega⟩ := by
  rw [← rates_apply]
  show rates _ = _
  refine congrArg rates ?_
  funext a
  rw [Subsingleton.elim a 0]
  exact Fin.ext (laneAt_val d)

/-- An angle at an index. -/
theorem angles_apply (r : Fin 1024) (d : Fin 128) : angles (ix2 r d) = Cert.Spatial.angle r d := by
  unfold Cert.Spatial.angle
  have h : angles (ix2 r d) = Scalar.select (cmpi .slt (iotaInDim S128 32 0) (rep' 64#32) (ix1 d))
      (FloatOps.sitofp (F := Ideal) .f32 (rowInt (ix1 r))) (FloatOps.sitofp (F := Ideal) .f32 (colInt (ix1 r))) * laneRate (ix1 d) := by
    pointwise [angles]
  rw [h, first_apply, rowInt_apply, colInt_apply, laneRate_apply]
  congr 1
  split <;> rfl

/-- The cosines at an index. -/
theorem cos_apply (c : Dev nD) (r : Fin 1024) (d : Fin 128) : V m c main_v35 (ix2 r d) = Ideal.cos (Cert.Spatial.angle r d) := by
  rw [v35, ← angles_apply]
  pointwise

/-- The first halves' sines at an index. -/
theorem lo_apply (c : Dev nD) (r : Fin 1024) (d : Fin 128) :
    V m c main_v38 (ix2 r d) = if d.val % 64 < 32 then -Ideal.sin (Cert.Spatial.angle r d) else 0 := by
  rw [v38, ← angles_apply]
  have h : select lower (Host.negf (Host.sin angles)) zeros (ix2 r d) = Scalar.select (cmpi .slt (laneInt 64#32) (rep' 32#32) (ix1 d))
      (-Ideal.sin (angles (ix2 r d))) 0 := by pointwise [lower]
  rw [h, lower_lane]
  split <;> rfl

/-- The second halves' sines at an index. -/
theorem hi_apply (c : Dev nD) (r : Fin 1024) (d : Fin 128) :
    V m c main_v39 (ix2 r d) = if d.val % 64 < 32 then 0 else Ideal.sin (Cert.Spatial.angle r d) := by
  rw [v39, ← angles_apply]
  have h : select lower zeros (Host.sin angles) (ix2 r d) = Scalar.select (cmpi .slt (laneInt 64#32) (rep' 32#32) (ix1 d))
      0 (Ideal.sin (angles (ix2 r d))) := by pointwise [lower]
  rw [h, lower_lane]
  split <;> rfl

end Cert.LatIdeal.Rope
-- ==== Proof.Lat.lean ====
module

public import proofs.«01_k».proof.Defs
public import proofs.«01_k».proof.Proof.Common
public import proofs.«01_k».proof.Proof.Window
public import proofs.«01_k».proof.Proof.Rope
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.LatIdeal.Attn

open Cert.LatIdeal Cert.LatIdeal.Gen
open Cert.Common (attTwo peak mass rms top)

variable (m : (ℓ : Loc nD τ sig) → Buf (Elt Ideal) ℓ)

/-- The scale of the scores, the reciprocal of the root of 128. -/
def scale : EReal := (((Real.sqrt 128)⁻¹ : ℝ) : EReal)

/-- The kernel's named constant denotes the scale. -/
theorem attn_scale : Named.named (F := Ideal) κ "attn_scale" (φ := .f32) 0x3DB504F3#32 = scale :=
  IdealRules.named_const.ideal_named_scalar _ _ _ _ rfl

/-- The kernel's named mask denotes minus infinity. -/
theorem mask_bot : Named.named (F := Ideal) κ "mask" (φ := .f32) 0xF149F2CA#32 = ⊥ :=
  IdealRules.named_const.ideal_named_scalar _ _ _ _ rfl

/-- A row of 128 numbers turned, as the kernel does it: by the row's cosines, and by its two tables of sines at the lanes 32
    on and 32 back. -/
def turn (x c l h : Fin 128 → EReal) (d : Fin 128) : EReal :=
  x d * c d + x ⟨(d.val + 32) % 128, by omega⟩ * l d + x ⟨(d.val + 96) % 128, by omega⟩ * h d

/-! ## One head -/

section head

variable (cq lq hq : Vec Ideal S128x128 .f32) (ck lk hk k v : Vec Ideal S384x128 .f32) (ok : IVec S128x384 1)
  (bk bv : Vec Ideal S1x512x128 .f32) (q : Vec Ideal S128x128 .f32) (s : Elt Ideal .f32)

/-- The head's queries, turned. -/
abbrev qs : FVec Ideal S128x128 .bf16 := k0_pay14 (k0_pay2 cq) (k0_pay3 lq) (k0_pay4 hq) q

/-- The head's keys, turned. -/
abbrev ks : FVec Ideal S384x128 .bf16 := k0_pay10 (k0_pay7 hk) k (k0_pay9 ck lk k) 32#32

/-- The masked scores of the window's keys. -/
abbrev sw : FVec Ideal S128x384 .f32 :=
  k0_pay15 (k0_pay2 cq) (k0_pay3 lq) (k0_pay4 hq) (k0_pay7 hk) ok k (k0_pay9 ck lk k) 32#32 q

/-- The scores of the cached keys. -/
abbrev sc : FVec Ideal S128x512 .f32 := k0_pay16 (k0_pay2 cq) (k0_pay3 lq) (k0_pay4 hq) bk q

/-- What one head stores. -/
def headOf : FVec Ideal S128x128 .f32 :=
  k0_pay19 (k0_pay11 v) (k0_pay13 bv) (sc cq lq hq bk q) s
    (k0_pay17 (k0_pay2 cq) (k0_pay3 lq) (k0_pay4 hq) (k0_pay7 hk) ok k (k0_pay9 ck lk k) 32#32 bk q s)
    (k0_pay18 (k0_pay2 cq) (k0_pay3 lq) (k0_pay4 hq) (k0_pay7 hk) ok k (k0_pay9 ck lk k) 32#32 bk q s)

/-- The turned queries at an index. -/
theorem qs_apply (r d : Fin 128) : qs cq lq hq q (ix2 r d)
    = turn (fun d => q (ix2 r d)) (fun d => cq (ix2 r d)) (fun d => lq (ix2 r d)) (fun d => hq (ix2 r d)) d := by
  unfold turn
  pointwise [k0_pay14, k0_pay2, k0_pay3, k0_pay4]
  rfl

/-- The turned keys at an index. -/
theorem ks_apply (r : Fin 384) (d : Fin 128) : ks ck lk hk k (ix2 r d)
    = turn (fun d => k (ix2 r d)) (fun d => ck (ix2 r d)) (fun d => lk (ix2 r d)) (fun d => hk (ix2 r d)) d := by
  unfold turn
  pointwise [k0_pay10, k0_pay9, k0_pay5, k0_pay6, k0_pay7]
  rfl

/-- The masked scores at an index. -/
theorem sw_apply (r : Fin 128) (j : Fin 384) : sw cq lq hq ck lk hk k ok q (ix2 r j)
    = Scalar.select (ok (ix2 r j)) ((∑ d : Fin 128, qs cq lq hq q (ix2 r d) * ks ck lk hk k (ix2 j d)) * scale) ⊥ := by
  rw [← attn_scale, ← mask_bot]
  pointwise [k0_pay15]

/-- The cached keys' scores at an index. -/
theorem sc_apply (r : Fin 128) (j : Fin 512) : sc cq lq hq bk q (ix2 r j)
    = (∑ d : Fin 128, qs cq lq hq q (ix2 r d) * bk (ix3 0 j d)) * scale := by
  rw [← attn_scale]
  pointwise [k0_pay16, k0_pay12]

/-- The greatest score of a query. -/
theorem peak_apply (r : Fin 128) :
    k0_pay17 (k0_pay2 cq) (k0_pay3 lq) (k0_pay4 hq) (k0_pay7 hk) ok k (k0_pay9 ck lk k) 32#32 bk q s (ix2 r 0)
      = peak (fun j : Fin 384 => sw cq lq hq ck lk hk k ok q (ix2 r j)) (fun j : Fin 512 => sc cq lq hq bk q (ix2 r j)) s := by
  unfold peak top
  rw [← Cert.Common.ofBits_neg_inf]
  pointwise [k0_pay17]

/-- What one head stores, at an index. -/
theorem headOf_apply (r d : Fin 128) : headOf cq lq hq ck lk hk k v ok bk bv q s (ix2 r d)
    = attTwo (fun j : Fin 384 => sw cq lq hq ck lk hk k ok q (ix2 r j)) (fun j : Fin 512 => sc cq lq hq bk q (ix2 r j)) s
        (fun j => v (ix2 j d)) (fun j => bv (ix3 0 j d)) := by
  unfold attTwo mass
  rw [← peak_apply]
  pointwise [headOf, k0_pay19, k0_pay18, k0_pay11, k0_pay13]

end head

/-! ## The blocks and where the window lies -/

/-- Where the grid point's window of 384 keys starts: one stretch of 128 before its queries', kept inside the 1024. -/
def start (n : ℕ) : ℕ := min 640 ((n - 1) * 128)

/-- Which block each window has at a grid point. -/
theorem idx : ∀ t : Fin grid0.N, win0_0.index t = ![0] ∧ win0_1.index t = ![64 + t.val, 3] ∧ win0_2.index t = ![8 + t.val / 8, 16]
    ∧ win0_3.index t = ![8 + t.val / 8, 17] ∧ win0_4.index t = ![t.val / 8, 0, 0] ∧ win0_5.index t = ![t.val / 8, 0, 0]
    ∧ win0_6.index t = ![0, 0] ∧ win0_7.index t = ![0, 0] ∧ win0_8.index t = ![0, 0] ∧ win0_9.index t = ![0, 0]
    ∧ win0_10.index t = ![t.val, 0] := by decide +kernel

/-- The queries' rows of the tables. -/
theorem off1 : ∀ t : Fin grid0.N, k0_off1 (grid0.coords t) = ![t.val % 8 * 128, 0] := by decide +kernel

/-- The window's rows of the tables. -/
theorem off2 : ∀ t : Fin grid0.N, k0_off2 (grid0.coords t) = ![start (t.val % 8), 0] := by decide +kernel

/-- The window's rows of each group of keys and values. -/
theorem off3 : ∀ t : Fin grid0.N, k0_off3 (grid0.coords t) = ![start (t.val % 8), 0 * 128]
    ∧ k0_off4 (grid0.coords t) = ![start (t.val % 8), 1 * 128] ∧ k0_off5 (grid0.coords t) = ![start (t.val % 8), 2 * 128]
    ∧ k0_off6 (grid0.coords t) = ![start (t.val % 8), 3 * 128] := by decide +kernel

/-- The test of the window as the kernel's words make it. -/
theorem near_words (a b : ℕ) (ha : a < 1024) (hb : b < 1024) :
    IntOp.cmpi .sle (IntOp.absi (BitVec.ofNat 32 a - BitVec.ofNat 32 b)) 128#32
      = if b ≤ a + 128 ∧ a ≤ b + 128 then 1#1 else 0#1 := by
  have hp : ∀ n : Fin 1024, IntOp.cmpi .sle (IntOp.absi (BitVec.ofNat 32 n.val)) 128#32 = if n.val ≤ 128 then 1#1 else 0#1 := by
    decide +kernel
  have hn : ∀ n : Fin 1024, IntOp.cmpi .sle (IntOp.absi (0#32 - BitVec.ofNat 32 n.val)) 128#32
      = if n.val ≤ 128 then 1#1 else 0#1 := by decide +kernel
  by_cases h : b ≤ a
  · have e : BitVec.ofNat 32 a - BitVec.ofNat 32 b = BitVec.ofNat 32 (a - b) := by
      apply BitVec.eq_of_toNat_eq
      simp only [BitVec.toNat_sub, BitVec.toNat_ofNat]
      omega
    rw [e, hp ⟨a - b, by omega⟩]
    exact if_congr (by constructor <;> intro _ <;> simp only at * <;> omega) rfl rfl
  · have e : BitVec.ofNat 32 a - BitVec.ofNat 32 b = 0#32 - BitVec.ofNat 32 (b - a) := by
      apply BitVec.eq_of_toNat_eq
      simp only [BitVec.toNat_sub, BitVec.toNat_ofNat]
      omega
    rw [e, hn ⟨b - a, by omega⟩]
    exact if_congr (by constructor <;> intro _ <;> simp only at * <;> omega) rfl rfl

/-- The words of the rows the window's test starts from. -/
theorem start_words : ∀ t : Fin grid0.N, Scalar.muli (BitVec.ofNat 32 (grid0.coords t 1).val) 128#32 = BitVec.ofNat 32 (t.val % 8 * 128)
    ∧ Scalar.minsi 640#32 (Scalar.maxsi 0#32 (Scalar.muli (Scalar.subi (BitVec.ofNat 32 (grid0.coords t 1).val) 1#32) 128#32))
      = BitVec.ofNat 32 (start (t.val % 8)) := by decide +kernel

/-- Which keys of the window a query sees. -/
theorem valid_apply (t : Fin grid0.N) (r : Fin 128) (j : Fin 384) : k0_pay8 (grid0.coords t) (ix2 r j)
    = if start (t.val % 8) + j.val ≤ t.val % 8 * 128 + r.val + 128 ∧ t.val % 8 * 128 + r.val ≤ start (t.val % 8) + j.val + 128
      then 1#1 else 0#1 := by
  have hs : start (t.val % 8) ≤ 640 := Nat.min_le_left _ _
  have h : k0_pay8 (grid0.coords t) (ix2 r j) = IntOp.cmpi .sle (IntOp.absi
      ((Scalar.muli (BitVec.ofNat 32 (grid0.coords t 1).val) 128#32 + BitVec.ofNat 32 r.val)
        - (Scalar.minsi 640#32 (Scalar.maxsi 0#32 (Scalar.muli (Scalar.subi (BitVec.ofNat 32 (grid0.coords t 1).val) 1#32) 128#32))
          + BitVec.ofNat 32 j.val))) 128#32 := by
    pointwise [k0_pay8]
    rfl
  rw [h, (start_words t).1, (start_words t).2, ← BitVec.ofNat_add, ← BitVec.ofNat_add]
  exact near_words _ _ (by omega) (by omega)

/-! ## The result, and the kernel's result -/

/-- The query of token `r` of sequence `b` in head `h`. -/
def query (p : FVec Ideal S10240x9216 .f32) (b : Fin 2) (r : Fin 1024) (h : Fin 16) (d : Fin 128) : EReal :=
  p (ix2 ⟨8192 + (b.val * 1024 + r.val), by omega⟩ ⟨6144 + (h.val * 128 + d.val), by omega⟩)

/-- The key of token `j` of sequence `b` in group `g`. -/
def key (p : FVec Ideal S10240x9216 .f32) (b : Fin 2) (j : Fin 1024) (g : Fin 4) (d : Fin 128) : EReal :=
  p (ix2 ⟨8192 + (b.val * 1024 + j.val), by omega⟩ ⟨8192 + (g.val * 128 + d.val), by omega⟩)

/-- The value of token `j` of sequence `b` in group `g`. -/
def value (p : FVec Ideal S10240x9216 .f32) (b : Fin 2) (j : Fin 1024) (g : Fin 4) (d : Fin 128) : EReal :=
  p (ix2 ⟨8192 + (b.val * 1024 + j.val), by omega⟩ ⟨8704 + (g.val * 128 + d.val), by omega⟩)

/-- The masked score of token `j` for token `r`: none further than 128 tokens away. -/
def score (p : FVec Ideal S10240x9216 .f32) (b : Fin 2) (h : Fin 16) (r j : Fin 1024) : EReal :=
  if j.val ≤ r.val + 128 ∧ r.val ≤ j.val + 128 then
    (∑ d : Fin 128, Cert.Spatial.rope r (query p b r h) d * Cert.Spatial.rope j (key p b j ⟨h.val / 4, by omega⟩) d) * scale
  else ⊥

/-- The score of cached key `j` for token `r`. -/
def scoreCached (p : FVec Ideal S10240x9216 .f32) (ck : FVec Ideal S2x512x4x128 .f32) (b : Fin 2) (h : Fin 16) (r : Fin 1024)
    (j : Fin 512) : EReal :=
  (∑ d : Fin 128, Cert.Spatial.rope r (query p b r h) d * ck (ix4 b j ⟨h.val / 4, by omega⟩ d)) * scale

/-- The attention of token `r` of sequence `b` in head `h`, lane `d`. -/
def attend (p : FVec Ideal S10240x9216 .f32) (ck cv : FVec Ideal S2x512x4x128 .f32) (sink : FVec Ideal S16 .f32) (b : Fin 2)
    (r : Fin 1024) (h : Fin 16) (d : Fin 128) : EReal :=
  attTwo (score p b h r) (scoreCached p ck b h r) (sink (ix1 h)) (fun j => value p b j ⟨h.val / 4, by omega⟩ d)
    (fun j => cv (ix4 b j ⟨h.val / 4, by omega⟩ d))

/-- The result: attention, then the norm over a token's columns. -/
def attn (p : FVec Ideal S10240x9216 .f32) (ck cv : FVec Ideal S2x512x4x128 .f32) (sink : FVec Ideal S16 .f32)
    (g : FVec Ideal S2048 .f32) : FVec Ideal S2048x2048 .bf16 := fun i =>
  rms (fun c => attend p ck cv sink ⟨(i 0).val / 1024, by have := (i 0).isLt; simp at this; omega⟩ ⟨(i 0).val % 1024, by omega⟩
      ⟨c.val / 128, by omega⟩ ⟨c.val % 128, by omega⟩)
    (fun c => g (ix1 c)) (i 1)

/-- Attention of the point's query `r` in head `h`, lane `d`, from the blocks staged; `R` is the queries' first row, `K` the
    window's. -/
def headsAt (x0 : FVec Ideal S16 .f32) (x1 : FVec Ideal S128x2048 .f32) (x2 x3 : FVec Ideal S1024x512 .f32)
    (x4 x5 : FVec Ideal S1x512x512 .f32) (x6 x7 x8 : FVec Ideal S1024x128 .f32) (ok : IVec S128x384 1) (R K : ℕ)
    (hR : R ≤ 896) (hK : K ≤ 640) (r : Fin 128) (h : Fin 16) (d : Fin 128) : EReal :=
  let q : Fin 128 → EReal := turn (fun d => x1 (ix2 r ⟨h.val * 128 + d.val, by omega⟩)) (fun d => x6 (ix2 ⟨R + r.val, by omega⟩ d))
    (fun d => x7 (ix2 ⟨R + r.val, by omega⟩ d)) (fun d => x8 (ix2 ⟨R + r.val, by omega⟩ d))
  attTwo
    (fun j : Fin 384 => Scalar.select (ok (ix2 r j)) ((∑ d : Fin 128, q d
        * turn (fun d => x2 (ix2 ⟨K + j.val, by omega⟩ ⟨h.val / 4 * 128 + d.val, by omega⟩)) (fun d => x6 (ix2 ⟨K + j.val, by omega⟩ d))
          (fun d => x7 (ix2 ⟨K + j.val, by omega⟩ d)) (fun d => x8 (ix2 ⟨K + j.val, by omega⟩ d)) d) * scale) ⊥)
    (fun j : Fin 512 => (∑ d : Fin 128, q d * x4 (ix3 0 j ⟨h.val / 4 * 128 + d.val, by omega⟩)) * scale)
    (x0 (ix1 h))
    (fun j : Fin 384 => x3 (ix2 ⟨K + j.val, by omega⟩ ⟨h.val / 4 * 128 + d.val, by omega⟩))
    (fun j : Fin 512 => x5 (ix3 0 j ⟨h.val / 4 * 128 + d.val, by omega⟩))

/-- What the scratch array holds once every head is stored. -/
def heads (x0 : FVec Ideal S16 .f32) (x1 : FVec Ideal S128x2048 .f32) (x2 x3 : FVec Ideal S1024x512 .f32)
    (x4 x5 : FVec Ideal S1x512x512 .f32) (x6 x7 x8 : FVec Ideal S1024x128 .f32) (ok : IVec S128x384 1) (R K : ℕ)
    (hR : R ≤ 896) (hK : K ≤ 640) : FVec Ideal S128x2048 .f32 := fun i =>
  headsAt x0 x1 x2 x3 x4 x5 x6 x7 x8 ok R K hR hK (i 0) ⟨(i 1).val / 128, by have := (i 1).isLt; simp at this; omega⟩
    ⟨(i 1).val % 128, by omega⟩

/-- Head `h`'s stored block is its block of `heads`. -/
theorem head_piece (x0 : FVec Ideal S16 .f32) (x1 : FVec Ideal S128x2048 .f32) (x2 x3 : FVec Ideal S1024x512 .f32)
    (x4 x5 : FVec Ideal S1x512x512 .f32) (x6 x7 x8 : FVec Ideal S1024x128 .f32) (ok : IVec S128x384 1) (R K : ℕ)
    (hR : R ≤ 896) (hK : K ≤ 640) (h g : ℕ) (hg : g = h / 4) (o1 o2 o3 : Fin 2 → ℕ) (e1 : o1 = ![R, 0]) (e2 : o2 = ![K, 0])
    (e3 : o3 = ![K, g * 128]) (p1 : ∀ a, o1 a + S128x128.size a ≤ S1024x128.size a)
    (p2 : ∀ a, o2 a + S384x128.size a ≤ S1024x128.size a) (p3 : ∀ a, o3 a + S384x128.size a ≤ S1024x512.size a)
    (p4 : ∀ a, ![0, 0, g * 128] a + S1x512x128.size a ≤ S1x512x512.size a)
    (p5 : ∀ a, ![0, h * 128] a + S128x128.size a ≤ S128x2048.size a)
    (p6 : ∀ a, ![h] a + S1.size a ≤ S16.size a) (i0 : S1.Idx) (z : S128x128.Idx) :
    headOf (View.ld x6 (Rect.unit (s := S1024x128) o1 S128x128.size p1)) (View.ld x7 (Rect.unit (s := S1024x128) o1 S128x128.size p1))
      (View.ld x8 (Rect.unit (s := S1024x128) o1 S128x128.size p1)) (View.ld x6 (Rect.unit (s := S1024x128) o2 S384x128.size p2))
      (View.ld x7 (Rect.unit (s := S1024x128) o2 S384x128.size p2)) (View.ld x8 (Rect.unit (s := S1024x128) o2 S384x128.size p2))
      (View.ld x2 (Rect.unit (s := S1024x512) o3 S384x128.size p3)) (View.ld x3 (Rect.unit (s := S1024x512) o3 S384x128.size p3)) ok
      (View.ld x4 (Rect.unit (s := S1x512x512) ![0, 0, g * 128] S1x512x128.size p4))
      (View.ld x5 (Rect.unit (s := S1x512x512) ![0, 0, g * 128] S1x512x128.size p4))
      (View.ld x1 (Rect.unit (s := S128x2048) ![0, h * 128] S128x128.size p5)) (View.ld x0 (Rect.unit (s := S16) ![h] S1.size p6) i0) z
      = heads x0 x1 x2 x3 x4 x5 x6 x7 x8 ok R K hR hK ((Rect.unit (s := S128x2048) ![0, h * 128] S128x128.size p5).emb z) := by
  subst hg e1 e2 e3
  have hh : h < 16 := by simpa using p6 0
  have e0 : (Rect.unit (s := S128x2048) ![0, h * 128] S128x128.size p5).emb z 0 = z 0 :=
    Fin.ext ((Rect.idx_unit_val (s := S128x2048) ![0, h * 128] S128x128.size p5 z 0).trans (Nat.zero_add _))
  have e1 : ((Rect.unit (s := S128x2048) ![0, h * 128] S128x128.size p5).emb z 1).val = h * 128 + (z 1).val :=
    Rect.idx_unit_val (s := S128x2048) ![0, h * 128] S128x128.size p5 z 1
  have z1 : (z 1).val < 128 := (z 1).isLt
  have d1 : (h * 128 + (z 1).val) / 128 = h := by omega
  have d2 : (h * 128 + (z 1).val) % 128 = (z 1).val := by omega
  unfold heads
  simp only [e0, e1, d1, d2]
  idx_vars z
  rw [headOf_apply]
  simp only [sw_apply, sc_apply, qs_apply, ks_apply]
  unfold headsAt
  pointwise

/-- The block of queries, staged whole. -/
theorem queries_apply (c : Dev nD) (t : Fin cfg0.N) (r : Fin 128) (d : Fin 2048) :
    X0_1 m c t (ix2 r d) = m ((c : Thread nD τ).loc main_arg0)
      (ix2 ⟨8192 + (t.val * 128 + r.val), by have : t.val < 16 := t.isLt; omega⟩ ⟨6144 + d.val, by omega⟩) := by
  have ht : t.val < 16 := t.isLt
  unfold X0_1 Pipeline.Window.fill
  rw [dif_pos (moved0_1 t _)]
  have h := idx t
  blk_point [iblk, V, h.2.1]

/-- The block of keys. -/
theorem keys_apply (c : Dev nD) (t : Fin cfg0.N) (r : Fin 1024) (d : Fin 512) :
    iblk m c 2 t (ix2 r d) = m ((c : Thread nD τ).loc main_arg0)
      (ix2 ⟨8192 + (t.val / 8 * 1024 + r.val), by have : t.val < 16 := t.isLt; omega⟩ ⟨8192 + d.val, by omega⟩) := by
  have ht : t.val < 16 := t.isLt
  have h := idx t
  blk_point [iblk, V, h.2.2.1]

/-- The block of values. -/
theorem values_apply (c : Dev nD) (t : Fin cfg0.N) (r : Fin 1024) (d : Fin 512) :
    iblk m c 3 t (ix2 r d) = m ((c : Thread nD τ).loc main_arg0)
      (ix2 ⟨8192 + (t.val / 8 * 1024 + r.val), by have : t.val < 16 := t.isLt; omega⟩ ⟨8704 + d.val, by omega⟩) := by
  have ht : t.val < 16 := t.isLt
  have h := idx t
  blk_point [iblk, V, h.2.2.2.1]

/-- What the host leaves as the cached keys. -/
theorem v0 (c : Dev nD) : V m c main_v0 = shapeCast _ (m ((c : Thread nD τ).loc main_arg1)) shapeCasts_S2x512x4x128_S2x512x512 := by
  unfold V
  after_reads_simp
  rfl

/-- What the host leaves as the cached values. -/
theorem v1 (c : Dev nD) : V m c main_v1 = shapeCast _ (m ((c : Thread nD τ).loc main_arg2)) shapeCasts_S2x512x4x128_S2x512x512 := by
  unfold V
  after_reads_simp
  rfl

/-- What the host leaves as the gain. -/
theorem v40 (c : Dev nD) : V m c main_v40 = broadcastInDim S1x2048 ![1] bcast_S2048_S1x2048_1 (m ((c : Thread nD τ).loc main_arg4)) := by
  unfold V
  after_reads_simp

/-- The block of cached keys. -/
theorem cachedKeys_apply (c : Dev nD) (t : Fin cfg0.N) (j : Fin 512) (d : Fin 512) :
    iblk m c 4 t (ix3 0 j d) = m ((c : Thread nD τ).loc main_arg1)
      (ix4 ⟨t.val / 8, by have : t.val < 16 := t.isLt; omega⟩ j ⟨d.val / 128, by omega⟩ ⟨d.val % 128, by omega⟩) := by
  have ht : t.val < 16 := t.isLt
  have h := idx t
  have e : (win0_4.blk t).view.emb (ix3 0 j d) = ix3 ⟨t.val / 8, by omega⟩ j d := by
    blk_ext [h.2.2.2.2.1]
  refine ((congrFun (v0 m c) _).trans (congrArg _ e)).trans ?_
  pointwise

/-- The block of cached values. -/
theorem cachedValues_apply (c : Dev nD) (t : Fin cfg0.N) (j : Fin 512) (d : Fin 512) :
    iblk m c 5 t (ix3 0 j d) = m ((c : Thread nD τ).loc main_arg2)
      (ix4 ⟨t.val / 8, by have : t.val < 16 := t.isLt; omega⟩ j ⟨d.val / 128, by omega⟩ ⟨d.val % 128, by omega⟩) := by
  have ht : t.val < 16 := t.isLt
  have h := idx t
  have e : (win0_5.blk t).view.emb (ix3 0 j d) = ix3 ⟨t.val / 8, by omega⟩ j d := by
    blk_ext [h.2.2.2.2.2.1]
  refine ((congrFun (v1 m c) _).trans (congrArg _ e)).trans ?_
  pointwise

/-- The table of cosines, staged whole. -/
theorem cos_blk (c : Dev nD) (t : Fin cfg0.N) (r : Fin 1024) (d : Fin 128) :
    iblk m c 6 t (ix2 r d) = Ideal.cos (Cert.Spatial.angle r d) := by
  have h := idx t
  have e : (win0_6.blk t).view.emb (ix2 r d) = ix2 r d := by
    blk_ext [h.2.2.2.2.2.2.1]
  exact (congrArg (V m c main_v35) e).trans (Rope.cos_apply m c r d)

/-- The table of the first halves' sines, staged whole. -/
theorem lo_blk (c : Dev nD) (t : Fin cfg0.N) (r : Fin 1024) (d : Fin 128) :
    iblk m c 7 t (ix2 r d) = if d.val % 64 < 32 then -Ideal.sin (Cert.Spatial.angle r d) else 0 := by
  have h := idx t
  have e : (win0_7.blk t).view.emb (ix2 r d) = ix2 r d := by
    blk_ext [h.2.2.2.2.2.2.2.1]
  exact (congrArg (V m c main_v38) e).trans (Rope.lo_apply m c r d)

/-- The table of the second halves' sines, staged whole. -/
theorem hi_blk (c : Dev nD) (t : Fin cfg0.N) (r : Fin 1024) (d : Fin 128) :
    iblk m c 8 t (ix2 r d) = if d.val % 64 < 32 then 0 else Ideal.sin (Cert.Spatial.angle r d) := by
  have h := idx t
  have e : (win0_8.blk t).view.emb (ix2 r d) = ix2 r d := by
    blk_ext [h.2.2.2.2.2.2.2.2.1]
  exact (congrArg (V m c main_v39) e).trans (Rope.hi_apply m c r d)

/-- The sinks, staged whole. -/
theorem sink_apply (c : Dev nD) (t : Fin cfg0.N) (h : Fin 16) :
    iblk m c 0 t (ix1 h) = m ((c : Thread nD τ).loc main_arg3) (ix1 h) := by
  have h := idx t
  blk_point [iblk, V, h.1]

/-- The gain, staged whole: the argument under a leading axis of one. -/
theorem gain_apply (c : Dev nD) (t : Fin cfg0.N) (d : Fin 2048) :
    iblk m c 9 t (ix2 0 d) = m ((c : Thread nD τ).loc main_arg4) (ix1 d) := by
  have h := idx t
  have e : (win0_9.blk t).view.emb (ix2 0 d) = ix2 0 d := by
    blk_ext [h.2.2.2.2.2.2.2.2.2.1]
  refine ((congrFun (v40 m c) _).trans (congrArg _ e)).trans ?_
  pointwise

/-- The kernel's turn by its tables is the turn by the angles: a lane's sine stands in one of the two tables, the other has
    zero there. -/
theorem turn_eq (x c l h : Fin 128 → EReal) (r : Fin 1024) (hc : ∀ d, c d = Ideal.cos (Cert.Spatial.angle r d))
    (hl : ∀ d : Fin 128, l d = if d.val % 64 < 32 then -Ideal.sin (Cert.Spatial.angle r d) else 0)
    (hh : ∀ d : Fin 128, h d = if d.val % 64 < 32 then 0 else Ideal.sin (Cert.Spatial.angle r d)) (d : Fin 128) :
    turn x c l h d = Cert.Spatial.rope r x d := by
  unfold turn Cert.Spatial.rope
  rw [hc, hl, hh]
  split_ifs
  · rw [mul_zero, add_zero, mul_neg]
  · rw [mul_zero, add_zero]

/-- What is asked of the arguments: real queries and keys of the latent tokens, real cached keys and real sinks. -/
structure Finite (p : FVec Ideal S10240x9216 .f32) (ck : FVec Ideal S2x512x4x128 .f32) (sink : FVec Ideal S16 .f32) : Prop where
  query : ∀ b r h d, Cert.Spatial.Real' (query p b r h d)
  key : ∀ b j g d, Cert.Spatial.Real' (key p b j g d)
  cached : ∀ b j g d, Cert.Spatial.Real' (ck (ix4 b j g d))
  sink : ∀ h, Cert.Spatial.Real' (sink (ix1 h))

/-- A score is not `⊤`. -/
theorem score_ne_top (p : FVec Ideal S10240x9216 .f32) (ck : FVec Ideal S2x512x4x128 .f32) (sink : FVec Ideal S16 .f32)
    (hf : Finite p ck sink) (b : Fin 2) (h : Fin 16) (r j : Fin 1024) : score p b h r j ≠ ⊤ := by
  unfold score
  split
  · exact ((Cert.Spatial.Real'.sum _ fun d => (Cert.Spatial.rope_real _ _ (hf.query b r h) d).mul
      (Cert.Spatial.rope_real _ _ (hf.key b j _) d)).mul ⟨_, rfl⟩).ne_top
  · exact bot_ne_top

/-- A cached key's score is not `⊤`. -/
theorem scoreCached_ne_top (p : FVec Ideal S10240x9216 .f32) (ck : FVec Ideal S2x512x4x128 .f32) (sink : FVec Ideal S16 .f32)
    (hf : Finite p ck sink) (b : Fin 2) (h : Fin 16) (r : Fin 1024) (j : Fin 512) : scoreCached p ck b h r j ≠ ⊤ :=
  ((Cert.Spatial.Real'.sum _ fun d => (Cert.Spatial.rope_real _ _ (hf.query b r h) d).mul (hf.cached b j _ d)).mul
    ⟨_, rfl⟩).ne_top

/-- Attention over all tokens is attention over the window's 384. -/
theorem attend_window (p : FVec Ideal S10240x9216 .f32) (ck cv : FVec Ideal S2x512x4x128 .f32) (sink : FVec Ideal S16 .f32)
    (hf : Finite p ck sink) (b : Fin 2) (i : ℕ) (hi : i < 8) (r : Fin 128) (h : Fin 16) (d : Fin 128) :
    attend p ck cv sink b ⟨i * 128 + r.val, by omega⟩ h d
      = attTwo (fun j : Fin 384 => score p b h ⟨i * 128 + r.val, by omega⟩ ⟨start i + j.val, by unfold start; omega⟩)
          (scoreCached p ck b h ⟨i * 128 + r.val, by omega⟩) (sink (ix1 h))
          (fun j => value p b ⟨start i + j.val, by unfold start; omega⟩ ⟨h.val / 4, by omega⟩ d)
          (fun j => cv (ix4 b j ⟨h.val / 4, by omega⟩ d)) := by
  obtain ⟨x, hx⟩ := hf.sink h
  unfold attend
  rw [hx]
  refine Cert.Common.attTwo_window (fun j : Fin 384 => (⟨start i + j.val, by unfold start; omega⟩ : Fin 1024)) ?_ _ _ x _ _ ?_
    (score_ne_top p ck sink hf b h _) (scoreCached_ne_top p ck sink hf b h _)
  · intro a b' hab
    have := congrArg Fin.val hab
    exact Fin.ext (by simp only at this; omega)
  · intro j hj
    unfold score
    rw [if_neg]
    rintro ⟨h1, h2⟩
    simp only at h1 h2
    unfold start at hj
    exact hj ⟨j.val - min 640 ((i - 1) * 128), by omega⟩ (Fin.ext (by simp only; omega))

/-- The scratch array's columns are the attention of the point's tokens. -/
theorem headsAt_eq (c : Dev nD) (t : Fin cfg0.N) (r : Fin 128) (h : Fin 16) (d : Fin 128) (hR : t.val % 8 * 128 ≤ 896)
    (hK : start (t.val % 8) ≤ 640) (b : Fin 2) (hb : b.val = t.val / 8)
    (hf : Finite (m ((c : Thread nD τ).loc main_arg0)) (m ((c : Thread nD τ).loc main_arg1)) (m ((c : Thread nD τ).loc main_arg3))) :
    headsAt (iblk m c 0 t) (X0_1 m c t) (iblk m c 2 t) (iblk m c 3 t) (iblk m c 4 t) (iblk m c 5 t) (iblk m c 6 t) (iblk m c 7 t)
        (iblk m c 8 t) (k0_pay8 (grid0.coords t)) (t.val % 8 * 128) (start (t.val % 8)) hR hK r h d
      = attend (m ((c : Thread nD τ).loc main_arg0)) (m ((c : Thread nD τ).loc main_arg1)) (m ((c : Thread nD τ).loc main_arg2))
          (m ((c : Thread nD τ).loc main_arg3)) b ⟨t.val % 8 * 128 + r.val, by omega⟩ h d := by
  have ht : t.val < 16 := t.isLt
  have d0 : (⟨t.val / 8, by omega⟩ : Fin 2) = b := Fin.ext hb.symm
  have d1 : t.val * 128 + r.val = b.val * 1024 + (t.val % 8 * 128 + r.val) := by omega
  have d2 : ∀ x : Fin 128, (h.val / 4 * 128 + x.val) / 128 = h.val / 4 := by omega
  have d3 : ∀ x : Fin 128, (h.val / 4 * 128 + x.val) % 128 = x.val := by omega
  rw [attend_window _ _ _ _ hf _ (t.val % 8) (by omega)]
  unfold headsAt
  simp only [turn_eq _ _ _ _ _ (fun d => cos_blk m c t _ d) (fun d => lo_blk m c t _ d) (fun d => hi_blk m c t _ d), valid_apply]
  simp only [queries_apply, keys_apply, values_apply, sink_apply, cachedKeys_apply, cachedValues_apply, d0, d1, d2, d3, ← hb]
  unfold scoreCached score query key value
  congr 1
  funext j
  simp only [Scalar.select]
  exact if_congr (by split_ifs with hn <;> simp [hn]) rfl rfl

/-- The norm and the store: the scratch array's rows, each normed. -/
theorem norm_apply (a : FVec Ideal S128x2048 .f32) (g : FVec Ideal S1x2048 .f32) (i : S128x2048.Idx) :
    k0_pay1 (F := Ideal) (k0_pay117 a) g i = rms (fun c => a (ix2 (i 0) c)) (fun c => g (ix2 0 c)) (i 1) := by
  idx_vars i
  unfold rms
  pointwise [k0_pay1, k0_pay117]

/-- The queries' rows are rows of the tables. -/
theorem inb1 : ∀ (t : Fin grid0.N) (a : Fin 2), k0_off1 (grid0.coords t) a + S128x128.size a ≤ S1024x128.size a := by decide +kernel

/-- The window's rows are rows of the tables. -/
theorem inb2 : ∀ (t : Fin grid0.N) (a : Fin 2), k0_off2 (grid0.coords t) a + S384x128.size a ≤ S1024x128.size a := by decide +kernel

/-- The window's rows of a group are rows of the keys and values. -/
theorem inb3 : ∀ (t : Fin grid0.N) (a : Fin 2), k0_off3 (grid0.coords t) a + S384x128.size a ≤ S1024x512.size a
    ∧ k0_off4 (grid0.coords t) a + S384x128.size a ≤ S1024x512.size a ∧ k0_off5 (grid0.coords t) a + S384x128.size a ≤ S1024x512.size a
    ∧ k0_off6 (grid0.coords t) a + S384x128.size a ≤ S1024x512.size a := by decide +kernel

/-- The result array after the run. -/
theorem final (c : Dev nD)
    (hf : Finite (m ((c : Thread nD τ).loc main_arg0)) (m ((c : Thread nD τ).loc main_arg1)) (m ((c : Thread nD τ).loc main_arg3))) :
    (dats m 0 c).arrAt 10 (cfgs 0).N
    = attn (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 10 _ (by decide +kernel) fun t hf' y => ?_
  blk_simp
  rw [after0_10]
  unfold outsAt0
  frame_out
  have ht : t.val < 16 := t.isLt
  have hR : t.val % 8 * 128 ≤ 896 := by omega
  have hK : start (t.val % 8) ≤ 640 := Nat.min_le_left _ _
  rw [Cert.Common.readCov_pieces _ _ (heads (iblk m c 0 t) (X0_1 m c t) (iblk m c 2 t) (iblk m c 3 t) (iblk m c 4 t) (iblk m c 5 t)
    (iblk m c 6 t) (iblk m c 7 t) (iblk m c 8 t) (k0_pay8 (grid0.coords t)) (t.val % 8 * 128) (start (t.val % 8)) hR hK) ?pieces ?cover]
  case cover => exact View.cover_of_tiled _ ![128, 128] (by rfl)
  case pieces =>
    have P := head_piece (iblk m c 0 t) (X0_1 m c t) (iblk m c 2 t) (iblk m c 3 t) (iblk m c 4 t) (iblk m c 5 t) (iblk m c 6 t)
      (iblk m c 7 t) (iblk m c 8 t) (k0_pay8 (grid0.coords t)) (t.val % 8 * 128) (start (t.val % 8)) hR hK
    exact ⟨P 15 3 rfl _ _ _ (off1 t) (off2 t) (off3 t).2.2.2 (inb1 t) (inb2 t) (fun a => (inb3 t a).2.2.2) (by decide) (by decide) (by decide) _,
      P 14 3 rfl _ _ _ (off1 t) (off2 t) (off3 t).2.2.2 (inb1 t) (inb2 t) (fun a => (inb3 t a).2.2.2) (by decide) (by decide) (by decide) _,
      P 13 3 rfl _ _ _ (off1 t) (off2 t) (off3 t).2.2.2 (inb1 t) (inb2 t) (fun a => (inb3 t a).2.2.2) (by decide) (by decide) (by decide) _,
      P 12 3 rfl _ _ _ (off1 t) (off2 t) (off3 t).2.2.2 (inb1 t) (inb2 t) (fun a => (inb3 t a).2.2.2) (by decide) (by decide) (by decide) _,
      P 11 2 rfl _ _ _ (off1 t) (off2 t) (off3 t).2.2.1 (inb1 t) (inb2 t) (fun a => (inb3 t a).2.2.1) (by decide) (by decide) (by decide) _,
      P 10 2 rfl _ _ _ (off1 t) (off2 t) (off3 t).2.2.1 (inb1 t) (inb2 t) (fun a => (inb3 t a).2.2.1) (by decide) (by decide) (by decide) _,
      P 9 2 rfl _ _ _ (off1 t) (off2 t) (off3 t).2.2.1 (inb1 t) (inb2 t) (fun a => (inb3 t a).2.2.1) (by decide) (by decide) (by decide) _,
      P 8 2 rfl _ _ _ (off1 t) (off2 t) (off3 t).2.2.1 (inb1 t) (inb2 t) (fun a => (inb3 t a).2.2.1) (by decide) (by decide) (by decide) _,
      P 7 1 rfl _ _ _ (off1 t) (off2 t) (off3 t).2.1 (inb1 t) (inb2 t) (fun a => (inb3 t a).2.1) (by decide) (by decide) (by decide) _,
      P 6 1 rfl _ _ _ (off1 t) (off2 t) (off3 t).2.1 (inb1 t) (inb2 t) (fun a => (inb3 t a).2.1) (by decide) (by decide) (by decide) _,
      P 5 1 rfl _ _ _ (off1 t) (off2 t) (off3 t).2.1 (inb1 t) (inb2 t) (fun a => (inb3 t a).2.1) (by decide) (by decide) (by decide) _,
      P 4 1 rfl _ _ _ (off1 t) (off2 t) (off3 t).2.1 (inb1 t) (inb2 t) (fun a => (inb3 t a).2.1) (by decide) (by decide) (by decide) _,
      P 3 0 rfl _ _ _ (off1 t) (off2 t) (off3 t).1 (inb1 t) (inb2 t) (fun a => (inb3 t a).1) (by decide) (by decide) (by decide) _,
      P 2 0 rfl _ _ _ (off1 t) (off2 t) (off3 t).1 (inb1 t) (inb2 t) (fun a => (inb3 t a).1) (by decide) (by decide) (by decide) _,
      P 1 0 rfl _ _ _ (off1 t) (off2 t) (off3 t).1 (inb1 t) (inb2 t) (fun a => (inb3 t a).1) (by decide) (by decide) (by decide) _,
      P 0 0 rfl _ _ _ (off1 t) (off2 t) (off3 t).1 (inb1 t) (inb2 t) (fun a => (inb3 t a).1) (by decide) (by decide) (by decide) _, trivial⟩
  rw [norm_apply]
  idx_vars y
  have e : ((View.whole main_v41).slice (win0_10.rect t)).emb (ix2 y0 y1) = ix2 ⟨t.val * 128 + y0.val, by omega⟩ y1 := by
    have h := idx t
    blk_ext [h.2.2.2.2.2.2.2.2.2.2]
  have e0 : (t.val * 128 + y0.val) / 1024 = t.val / 8 := by omega
  have e1 : (t.val * 128 + y0.val) % 1024 = t.val % 8 * 128 + y0.val := by omega
  rw [e]
  simp only [heads, attn, ix2, Matrix.cons_val_zero, Matrix.cons_val_one, gain_apply,
    headsAt_eq m c t _ _ _ hR hK ⟨t.val / 8, by omega⟩ rfl hf, e0, e1]

end Cert.LatIdeal.Attn
-- ==== Proof.LatRef.lean ====
module

public import proofs.«01_k».proof.Defs
public import proofs.«01_k».proof.Proof.Lat
public import proofs.«01_k».proof.Proof.Gen.Lat.Frame
public import proofs.«01_k».proof.Proof.Gen.LatRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.LatRefIdeal.Attn

open Cert.LatRefIdeal Cert.LatRefIdeal.Gen Cert.LatRefIdeal.Value
open Cert.Common (attTwo soft top rms)
open Cert.LatIdeal.Attn (query key value score scoreCached attend attn scale)

variable (V0 : Valuation τ sig (Elt Ideal))

/-- The projections. -/
abbrev proj : FVec Ideal S10240x9216 .f32 := V0 (Proc.devRef .tc main_arg0)

/-- A latent token's row of the projections. -/
theorem rows_apply (b : Fin 2) (r : Fin 1024) (c : Fin 9216) :
    res_main_v1 V0 (ix3 b r c) = proj V0 (ix2 ⟨8192 + (b.val * 1024 + r.val), by omega⟩ c) := by
  pointwise [res_main_v1]

/-- The queries at an index. -/
theorem query_apply (b : Fin 2) (r : Fin 1024) (h : Fin 16) (d : Fin 128) :
    res_main_v3 V0 (ix4 b r h d) = query (proj V0) b r h d := by
  unfold query
  rw [← rows_apply]
  pointwise [res_main_v3]

/-- The keys at an index. -/
theorem key_apply (b : Fin 2) (r : Fin 1024) (g : Fin 4) (d : Fin 128) :
    res_main_v64 V0 (ix4 b r g d) = key (proj V0) b r g d := by
  unfold key
  rw [← rows_apply]
  pointwise [res_main_v64]

/-- Angles: whole numbers times the rates. -/
def turns (x : IVec S1024 32) : FVec Ideal S1024x32 .f32 :=
  mulf (broadcastInDim S1024x32 ![0, 1] bcast_S1024x1_S1024x32_0_1 (broadcastInDim S1024x1 ![0] bcast_S1024_S1024x1_0 (sitofp .f32 x)))
    (broadcastInDim S1024x32 ![0, 1] bcast_S1x32_S1024x32_0_1 (broadcastInDim S1x32 ![1] bcast_S32_S1x32_1 Cert.LatIdeal.Rope.rates))

/-- The angles at an index. -/
theorem turns_apply (x : IVec S1024 32) (f : Fin 1024 → ℕ) (hx : ∀ r, x (ix1 r) = BitVec.ofNat 32 (f r)) (r : Fin 1024) (k : Fin 32) :
    turns x (ix2 r k) = Cert.Spatial.whole (f r) * Cert.Spatial.rate k := by
  have h : turns x (ix2 r k) = FloatOps.sitofp (F := Ideal) .f32 (x (ix1 r)) * Cert.LatIdeal.Rope.rates (ix1 k) := by
    pointwise [turns]
  rw [h, hx, Cert.LatIdeal.Rope.rates_apply]
  rfl

/-- The queries' angles by row. -/
theorem rowTurns : res_main_v19 V0 = turns Cert.LatIdeal.Rope.rowInt := rfl
/-- The queries' angles by column. -/
theorem colTurns : res_main_v43 V0 = turns Cert.LatIdeal.Rope.colInt := rfl
/-- The keys' angles by row. -/
theorem rowTurns' : res_main_v80 V0 = turns Cert.LatIdeal.Rope.rowInt := rfl
/-- The keys' angles by column. -/
theorem colTurns' : res_main_v104 V0 = turns Cert.LatIdeal.Rope.colInt := rfl

/-- One half's 64 lanes turned: lanes 32 apart by the angle `a` times their rate. -/
def halfSpec (a : EReal) (y : Fin 64 → EReal) (d : Fin 64) : EReal :=
  if h : d.val < 32 then
    y d * Ideal.cos (a * Cert.Spatial.rate ⟨d.val, h⟩) - y ⟨32 + d.val, by omega⟩ * Ideal.sin (a * Cert.Spatial.rate ⟨d.val, h⟩)
  else
    y ⟨d.val - 32, by omega⟩ * Ideal.sin (a * Cert.Spatial.rate ⟨d.val - 32, by omega⟩)
      + y ⟨32 + (d.val - 32), by omega⟩ * Ideal.cos (a * Cert.Spatial.rate ⟨d.val - 32, by omega⟩)

/-- The two halves turned side by side are the rotation of the kernel's statement. -/
theorem rope_halves (r : Fin 1024) (x : Fin 128 → EReal) (d : Fin 128) :
    (if h : d.val < 64 then
        halfSpec (Cert.Spatial.whole (r.val / 64)) (fun e => x ⟨e.val, by omega⟩) ⟨d.val, h⟩
      else halfSpec (Cert.Spatial.whole (r.val % 64)) (fun e => x ⟨64 + e.val, by omega⟩) ⟨d.val - 64, by omega⟩)
      = Cert.Spatial.rope r x d := by
  obtain ⟨d, hd⟩ := d
  by_cases h : d < 64
  · by_cases k : d < 32
    · have e1 : (⟨d % 32, by omega⟩ : Fin 32) = ⟨d, k⟩ := Fin.ext (by simp; omega)
      have e2 : (⟨(d + 32) % 128, by omega⟩ : Fin 128) = ⟨32 + d, by omega⟩ := Fin.ext (by simp; omega)
      simp only [halfSpec, Cert.Spatial.rope, Cert.Spatial.angle, h, k, dif_pos, if_pos, (by omega : d % 64 < 32), e1, e2,
        sub_eq_add_neg]
    · have e1 : (⟨d % 32, by omega⟩ : Fin 32) = ⟨d - 32, by omega⟩ := Fin.ext (by simp; omega)
      have e2 : (⟨(d + 96) % 128, by omega⟩ : Fin 128) = ⟨d - 32, by omega⟩ := Fin.ext (by simp; omega)
      have e3 : 32 + (d - 32) = d := by omega
      have hm : ¬ d % 64 < 32 := by omega
      simp only [halfSpec, Cert.Spatial.rope, Cert.Spatial.angle, h, k, dif_pos, dif_neg, if_pos, if_neg, not_false_eq_true,
        hm, e1, e2, e3]
      exact add_comm (G := EReal) _ _
  · by_cases k : d - 64 < 32
    · have e1 : (⟨d % 32, by omega⟩ : Fin 32) = ⟨d - 64, k⟩ := Fin.ext (by simp; omega)
      have e2 : (⟨(d + 32) % 128, by omega⟩ : Fin 128) = ⟨64 + (32 + (d - 64)), by omega⟩ := Fin.ext (by simp; omega)
      have e3 : 64 + (d - 64) = d := by omega
      simp only [halfSpec, Cert.Spatial.rope, Cert.Spatial.angle, h, k, dif_pos, dif_neg, if_pos, if_neg, not_false_eq_true,
        (by omega : d % 64 < 32), e1, e2, e3, sub_eq_add_neg]
    · have e1 : (⟨d % 32, by omega⟩ : Fin 32) = ⟨d - 64 - 32, by omega⟩ := Fin.ext (by simp; omega)
      have e2 : (⟨(d + 96) % 128, by omega⟩ : Fin 128) = ⟨64 + (d - 64 - 32), by omega⟩ := Fin.ext (by simp; omega)
      have e3 : 64 + (32 + (d - 64 - 32)) = d := by omega
      have hm : ¬ d % 64 < 32 := by omega
      simp only [halfSpec, Cert.Spatial.rope, Cert.Spatial.angle, h, k, dif_neg, if_neg, not_false_eq_true,
        hm, e1, e2, e3]
      exact add_comm (G := EReal) _ _

/-- Half of the lanes of the queries, turned. -/
def halfQ (x : FVec Ideal S2x1024x16x64 .f32) (t : FVec Ideal S1024x32 .f32) : FVec Ideal S2x1024x16x64 .f32 :=
  concatenate S2x1024x16x64 3
    [⟨S2x1024x16x32, subf (mulf (extractStridedSlice S2x1024x16x32 ![0, 0, 0, 0] x slices_S2x1024x16x64_S2x1024x16x32_0_0_0_0)
        (broadcastInDim S2x1024x16x32 ![0, 1, 2, 3] bcast_S1x1024x1x32_S2x1024x16x32_0_1_2_3 (broadcastInDim S1x1024x1x32 ![1, 3] bcast_S1024x32_S1x1024x1x32_1_3 (Host.cos t))))
      (mulf (extractStridedSlice S2x1024x16x32 ![0, 0, 0, 32] x slices_S2x1024x16x64_S2x1024x16x32_0_0_0_32)
        (broadcastInDim S2x1024x16x32 ![0, 1, 2, 3] bcast_S1x1024x1x32_S2x1024x16x32_0_1_2_3 (broadcastInDim S1x1024x1x32 ![1, 3] bcast_S1024x32_S1x1024x1x32_1_3 (Host.sin t))))⟩,
     ⟨S2x1024x16x32, addf (mulf (extractStridedSlice S2x1024x16x32 ![0, 0, 0, 0] x slices_S2x1024x16x64_S2x1024x16x32_0_0_0_0)
        (broadcastInDim S2x1024x16x32 ![0, 1, 2, 3] bcast_S1x1024x1x32_S2x1024x16x32_0_1_2_3 (broadcastInDim S1x1024x1x32 ![1, 3] bcast_S1024x32_S1x1024x1x32_1_3 (Host.sin t))))
      (mulf (extractStridedSlice S2x1024x16x32 ![0, 0, 0, 32] x slices_S2x1024x16x64_S2x1024x16x32_0_0_0_32)
        (broadcastInDim S2x1024x16x32 ![0, 1, 2, 3] bcast_S1x1024x1x32_S2x1024x16x32_0_1_2_3 (broadcastInDim S1x1024x1x32 ![1, 3] bcast_S1024x32_S1x1024x1x32_1_3 (Host.cos t))))⟩]
    concatenates_S2x1024x16x32_S2x1024x16x32_S2x1024x16x64_d3

/-- The queries turned: the first half of the lanes by row, the second by column. -/
def turnedQ (x : FVec Ideal S2x1024x16x128 .f32) (t u : FVec Ideal S1024x32 .f32) : FVec Ideal S2x1024x16x128 .f32 :=
  concatenate S2x1024x16x128 3
    [⟨S2x1024x16x64, halfQ (extractStridedSlice S2x1024x16x64 ![0, 0, 0, 0] x slices_S2x1024x16x128_S2x1024x16x64_0_0_0_0) t⟩,
     ⟨S2x1024x16x64, halfQ (extractStridedSlice S2x1024x16x64 ![0, 0, 0, 64] x slices_S2x1024x16x128_S2x1024x16x64_0_0_0_64) u⟩]
    concatenates_S2x1024x16x64_S2x1024x16x64_S2x1024x16x128_d3

/-- Half of the lanes of the queries, turned, read at an index. -/
theorem halfQ_apply (x : FVec Ideal S2x1024x16x64 .f32) (t : FVec Ideal S1024x32 .f32) (a : EReal) (b : Fin 2) (r : Fin 1024)
    (h : Fin 16) (d : Fin 64) (ht : ∀ k, t (ix2 r k) = a * Cert.Spatial.rate k) :
    halfQ x t (ix4 b r h d) = halfSpec a (fun e => x (ix4 b r h e)) d := by
  unfold halfSpec
  simp only [← ht]
  pointwise [halfQ]

/-- Two halves of the queries side by side, read at an index. -/
theorem joinQ_apply (y z : FVec Ideal S2x1024x16x64 .f32) (b : Fin 2) (r : Fin 1024) (h : Fin 16) (d : Fin 128) :
    concatenate (α := EReal) S2x1024x16x128 3 [⟨S2x1024x16x64, y⟩, ⟨S2x1024x16x64, z⟩] concatenates_S2x1024x16x64_S2x1024x16x64_S2x1024x16x128_d3 (ix4 b r h d)
      = if k : d.val < 64 then y (ix4 b r h ⟨d.val, k⟩) else z (ix4 b r h ⟨d.val - 64, by omega⟩) := by
  pointwise

/-- The lower half of the queries' lanes, read at an index. -/
theorem lowQ_apply (x : FVec Ideal S2x1024x16x128 .f32) (b : Fin 2) (r : Fin 1024) (h : Fin 16) (d : Fin 64) :
    extractStridedSlice S2x1024x16x64 ![0, 0, 0, 0] x slices_S2x1024x16x128_S2x1024x16x64_0_0_0_0 (ix4 b r h d) = x (ix4 b r h ⟨d.val, by omega⟩) := by
  pointwise

/-- The upper half of the queries' lanes, read at an index. -/
theorem highQ_apply (x : FVec Ideal S2x1024x16x128 .f32) (b : Fin 2) (r : Fin 1024) (h : Fin 16) (d : Fin 64) :
    extractStridedSlice S2x1024x16x64 ![0, 0, 0, 64] x slices_S2x1024x16x128_S2x1024x16x64_0_0_0_64 (ix4 b r h d) = x (ix4 b r h ⟨64 + d.val, by omega⟩) := by
  pointwise

/-- The queries turned, read at an index. -/
theorem turnedQ_apply (x : FVec Ideal S2x1024x16x128 .f32) (b : Fin 2) (r : Fin 1024) (h : Fin 16) (d : Fin 128) :
    turnedQ x (turns Cert.LatIdeal.Rope.rowInt) (turns Cert.LatIdeal.Rope.colInt) (ix4 b r h d)
      = Cert.Spatial.rope r (fun e => x (ix4 b r h e)) d := by
  unfold turnedQ
  rw [joinQ_apply, ← rope_halves]
  refine dite_congr rfl (fun k => ?_) (fun k => ?_)
  · rw [halfQ_apply _ _ (Cert.Spatial.whole (r.val / 64)) _ _ _ _
      fun k => turns_apply _ (fun r => r.val / 64) Cert.LatIdeal.Rope.rowInt_apply r k]
    exact congrArg (halfSpec _ · _) (funext fun e => lowQ_apply x b r h e)
  · rw [halfQ_apply _ _ (Cert.Spatial.whole (r.val % 64)) _ _ _ _
      fun k => turns_apply _ (fun r => r.val % 64) Cert.LatIdeal.Rope.colInt_apply r k]
    exact congrArg (halfSpec _ · _) (funext fun e => highQ_apply x b r h e)

/-- Half of the lanes of the keys, turned. -/
def halfK (x : FVec Ideal S2x1024x4x64 .f32) (t : FVec Ideal S1024x32 .f32) : FVec Ideal S2x1024x4x64 .f32 :=
  concatenate S2x1024x4x64 3
    [⟨S2x1024x4x32, subf (mulf (extractStridedSlice S2x1024x4x32 ![0, 0, 0, 0] x slices_S2x1024x4x64_S2x1024x4x32_0_0_0_0)
        (broadcastInDim S2x1024x4x32 ![0, 1, 2, 3] bcast_S1x1024x1x32_S2x1024x4x32_0_1_2_3 (broadcastInDim S1x1024x1x32 ![1, 3] bcast_S1024x32_S1x1024x1x32_1_3 (Host.cos t))))
      (mulf (extractStridedSlice S2x1024x4x32 ![0, 0, 0, 32] x slices_S2x1024x4x64_S2x1024x4x32_0_0_0_32)
        (broadcastInDim S2x1024x4x32 ![0, 1, 2, 3] bcast_S1x1024x1x32_S2x1024x4x32_0_1_2_3 (broadcastInDim S1x1024x1x32 ![1, 3] bcast_S1024x32_S1x1024x1x32_1_3 (Host.sin t))))⟩,
     ⟨S2x1024x4x32, addf (mulf (extractStridedSlice S2x1024x4x32 ![0, 0, 0, 0] x slices_S2x1024x4x64_S2x1024x4x32_0_0_0_0)
        (broadcastInDim S2x1024x4x32 ![0, 1, 2, 3] bcast_S1x1024x1x32_S2x1024x4x32_0_1_2_3 (broadcastInDim S1x1024x1x32 ![1, 3] bcast_S1024x32_S1x1024x1x32_1_3 (Host.sin t))))
      (mulf (extractStridedSlice S2x1024x4x32 ![0, 0, 0, 32] x slices_S2x1024x4x64_S2x1024x4x32_0_0_0_32)
        (broadcastInDim S2x1024x4x32 ![0, 1, 2, 3] bcast_S1x1024x1x32_S2x1024x4x32_0_1_2_3 (broadcastInDim S1x1024x1x32 ![1, 3] bcast_S1024x32_S1x1024x1x32_1_3 (Host.cos t))))⟩]
    concatenates_S2x1024x4x32_S2x1024x4x32_S2x1024x4x64_d3

/-- The keys turned: the first half of the lanes by row, the second by column. -/
def turnedK (x : FVec Ideal S2x1024x4x128 .f32) (t u : FVec Ideal S1024x32 .f32) : FVec Ideal S2x1024x4x128 .f32 :=
  concatenate S2x1024x4x128 3
    [⟨S2x1024x4x64, halfK (extractStridedSlice S2x1024x4x64 ![0, 0, 0, 0] x slices_S2x1024x4x128_S2x1024x4x64_0_0_0_0) t⟩,
     ⟨S2x1024x4x64, halfK (extractStridedSlice S2x1024x4x64 ![0, 0, 0, 64] x slices_S2x1024x4x128_S2x1024x4x64_0_0_0_64) u⟩]
    concatenates_S2x1024x4x64_S2x1024x4x64_S2x1024x4x128_d3

/-- Half of the lanes of the keys, turned, read at an index. -/
theorem halfK_apply (x : FVec Ideal S2x1024x4x64 .f32) (t : FVec Ideal S1024x32 .f32) (a : EReal) (b : Fin 2) (r : Fin 1024)
    (h : Fin 4) (d : Fin 64) (ht : ∀ k, t (ix2 r k) = a * Cert.Spatial.rate k) :
    halfK x t (ix4 b r h d) = halfSpec a (fun e => x (ix4 b r h e)) d := by
  unfold halfSpec
  simp only [← ht]
  pointwise [halfK]

/-- Two halves of the keys side by side, read at an index. -/
theorem joinK_apply (y z : FVec Ideal S2x1024x4x64 .f32) (b : Fin 2) (r : Fin 1024) (h : Fin 4) (d : Fin 128) :
    concatenate (α := EReal) S2x1024x4x128 3 [⟨S2x1024x4x64, y⟩, ⟨S2x1024x4x64, z⟩] concatenates_S2x1024x4x64_S2x1024x4x64_S2x1024x4x128_d3 (ix4 b r h d)
      = if k : d.val < 64 then y (ix4 b r h ⟨d.val, k⟩) else z (ix4 b r h ⟨d.val - 64, by omega⟩) := by
  pointwise

/-- The lower half of the keys' lanes, read at an index. -/
theorem lowK_apply (x : FVec Ideal S2x1024x4x128 .f32) (b : Fin 2) (r : Fin 1024) (h : Fin 4) (d : Fin 64) :
    extractStridedSlice S2x1024x4x64 ![0, 0, 0, 0] x slices_S2x1024x4x128_S2x1024x4x64_0_0_0_0 (ix4 b r h d) = x (ix4 b r h ⟨d.val, by omega⟩) := by
  pointwise

/-- The upper half of the keys' lanes, read at an index. -/
theorem highK_apply (x : FVec Ideal S2x1024x4x128 .f32) (b : Fin 2) (r : Fin 1024) (h : Fin 4) (d : Fin 64) :
    extractStridedSlice S2x1024x4x64 ![0, 0, 0, 64] x slices_S2x1024x4x128_S2x1024x4x64_0_0_0_64 (ix4 b r h d) = x (ix4 b r h ⟨64 + d.val, by omega⟩) := by
  pointwise

/-- The keys turned, read at an index. -/
theorem turnedK_apply (x : FVec Ideal S2x1024x4x128 .f32) (b : Fin 2) (r : Fin 1024) (h : Fin 4) (d : Fin 128) :
    turnedK x (turns Cert.LatIdeal.Rope.rowInt) (turns Cert.LatIdeal.Rope.colInt) (ix4 b r h d)
      = Cert.Spatial.rope r (fun e => x (ix4 b r h e)) d := by
  unfold turnedK
  rw [joinK_apply, ← rope_halves]
  refine dite_congr rfl (fun k => ?_) (fun k => ?_)
  · rw [halfK_apply _ _ (Cert.Spatial.whole (r.val / 64)) _ _ _ _
      fun k => turns_apply _ (fun r => r.val / 64) Cert.LatIdeal.Rope.rowInt_apply r k]
    exact congrArg (halfSpec _ · _) (funext fun e => lowK_apply x b r h e)
  · rw [halfK_apply _ _ (Cert.Spatial.whole (r.val % 64)) _ _ _ _
      fun k => turns_apply _ (fun r => r.val % 64) Cert.LatIdeal.Rope.colInt_apply r k]
    exact congrArg (halfSpec _ · _) (funext fun e => highK_apply x b r h e)

/-- The reference's queries are these. -/
theorem queries_eq : res_main_v62 V0 = shapeCast _ (turnedQ (res_main_v3 V0) (turns Cert.LatIdeal.Rope.rowInt)
    (turns Cert.LatIdeal.Rope.colInt)) shapeCasts_S2x1024x16x128_S2x1024x4x4x128 := rfl

/-- The turned queries at an index. -/
theorem queries_apply (b : Fin 2) (r : Fin 1024) (g h : Fin 4) (d : Fin 128) :
    res_main_v62 V0 (ix5 b r g h d) = Cert.Spatial.rope r (query (proj V0) b r ⟨g.val * 4 + h.val, by omega⟩) d := by
  have e : (query (proj V0) b r ⟨g.val * 4 + h.val, by omega⟩)
      = fun e => res_main_v3 V0 (ix4 b r ⟨g.val * 4 + h.val, by omega⟩ e) := funext fun e => (query_apply V0 _ _ _ _).symm
  rw [e, ← turnedQ_apply, queries_eq]
  pointwise

/-- The turned keys. -/
def keys : FVec Ideal S2x1024x4x128 .f32 :=
  turnedK (res_main_v64 V0) (turns Cert.LatIdeal.Rope.rowInt) (turns Cert.LatIdeal.Rope.colInt)

/-- The turned keys at an index. -/
theorem keys_apply (b : Fin 2) (r : Fin 1024) (g : Fin 4) (d : Fin 128) :
    keys V0 (ix4 b r g d) = Cert.Spatial.rope r (key (proj V0) b r g) d := by
  have e : key (proj V0) b r g = fun e => res_main_v64 V0 (ix4 b r g e) := funext fun e => (key_apply V0 _ _ _ _).symm
  rw [e, ← turnedK_apply]
  rfl

/-- The scores of the tokens, masked. -/
def latScores (k : FVec Ideal S2x1024x4x128 .f32) (q : FVec Ideal S2x1024x4x4x128 .f32) : FVec Ideal S2x4x4x1024x1024 .f32 :=
  select (broadcastInDim S2x4x4x1024x1024 ![3, 4] bcast_S1024x1024_S2x4x4x1024x1024_3_4
      (cmpi .sle (absi (subi
          (broadcastInDim S1024x1024 ![0, 1] bcast_S1024x1_S1024x1024_0_1 (broadcastInDim S1024x1 ![0] bcast_S1024_S1024x1_0 (iotaInDim S1024 32 0)))
          (broadcastInDim S1024x1024 ![0, 1] bcast_S1x1024_S1024x1024_0_1 (broadcastInDim S1x1024 ![1] bcast_S1024_S1x1024_1 (iotaInDim S1024 32 0)))))
        (broadcastInDim S1024x1024 ![] bcast_S_S1024x1024 (constantI S_ 32 128#32))))
    (Host.divf (transpose S2x4x4x1024x1024 [0, 1, 4, 3, 2]
        (Host.dotGeneral dot_S2x1024x4x128_S2x1024x4x4x128_S2x4x1024x1024x4_3_4_1_13_02_02 none k q)
        transposes_S2x4x1024x1024x4_S2x4x4x1024x1024_0_1_4_3_2)
      (broadcastInDim S2x4x4x1024x1024 ![] bcast_S_S2x4x4x1024x1024 (Host.sqrt (constant S_ .f32 0x43000000#32))))
    (broadcastInDim S2x4x4x1024x1024 ![] bcast_S_S2x4x4x1024x1024 (id (constant S_ .f32 0xFF800000#32)))

/-- The scores of the cached keys. -/
def cacheScores (k : FVec Ideal S2x512x4x128 .f32) (q : FVec Ideal S2x1024x4x4x128 .f32) : FVec Ideal S2x4x4x1024x512 .f32 :=
  Host.divf (transpose S2x4x4x1024x512 [0, 1, 4, 3, 2]
      (Host.dotGeneral dot_S2x512x4x128_S2x1024x4x4x128_S2x4x512x1024x4_3_4_1_13_02_02 none k q)
      transposes_S2x4x512x1024x4_S2x4x4x1024x512_0_1_4_3_2)
    (broadcastInDim S2x4x4x1024x512 ![] bcast_S_S2x4x4x1024x512 (Host.sqrt (constant S_ .f32 0x43000000#32)))

/-- The sinks, one a head. -/
def sinkScores (s : FVec Ideal S16 .f32) : FVec Ideal S2x4x4x1024x1 .f32 :=
  broadcastInDim S2x4x4x1024x1 ![1, 2, 3, 4] bcast_S4x4x1x1_S2x4x4x1024x1_1_2_3_4 (shapeCast _ s shapeCasts_S16_S4x4x1x1)

/-- Scores of tokens, of cached keys and of the sink side by side. -/
def sideBySide (x : FVec Ideal S2x4x4x1024x1024 .f32) (y : FVec Ideal S2x4x4x1024x512 .f32) (z : FVec Ideal S2x4x4x1024x1 .f32) :
    FVec Ideal S2x4x4x1024x1537 .f32 :=
  concatenate S2x4x4x1024x1537 4
    [⟨S2x4x4x1024x1536, concatenate S2x4x4x1024x1536 4 [⟨S2x4x4x1024x1024, x⟩, ⟨S2x4x4x1024x512, y⟩]
      concatenates_S2x4x4x1024x1024_S2x4x4x1024x512_S2x4x4x1024x1536_d4⟩, ⟨S2x4x4x1024x1, z⟩]
    concatenates_S2x4x4x1024x1536_S2x4x4x1024x1_S2x4x4x1024x1537_d4

/-- The reference's scores are these. -/
theorem scores_eq : res_main_v148 V0 = sideBySide (latScores (keys V0) (res_main_v62 V0))
    (cacheScores (V0 (Proc.devRef .tc main_arg1)) (res_main_v62 V0)) (sinkScores (V0 (Proc.devRef .tc main_arg3))) := rfl

/-- The scores side by side, read at an index. -/
theorem sideBySide_apply (x : FVec Ideal S2x4x4x1024x1024 .f32) (y : FVec Ideal S2x4x4x1024x512 .f32)
    (z : FVec Ideal S2x4x4x1024x1 .f32) (b : Fin 2) (g h : Fin 4) (r : Fin 1024) (j : Fin 1537) :
    sideBySide x y z (ix5 b g h r j) = if k : j.val < 1536 then
        if l : j.val < 1024 then x (ix5 b g h r ⟨j.val, l⟩) else y (ix5 b g h r ⟨j.val - 1024, by omega⟩)
      else z (ix5 b g h r ⟨j.val - 1536, by omega⟩) := by
  pointwise [sideBySide]

/-- The cached keys' scores at an index. -/
theorem cacheScores_apply (k : FVec Ideal S2x512x4x128 .f32) (q : FVec Ideal S2x1024x4x4x128 .f32) (b : Fin 2) (g h : Fin 4)
    (r : Fin 1024) (j : Fin 512) : cacheScores k q (ix5 b g h r j)
      = Ideal.div (∑ x : Fin 128, k (ix4 b j g x) * q (ix5 b r g h x)) (Ideal.sqrt (Ideal.ofBits .f32 0x43000000#32)) := by
  pointwise [cacheScores]

/-- The tokens' scores at an index. -/
theorem latScores_apply (k : FVec Ideal S2x1024x4x128 .f32) (q : FVec Ideal S2x1024x4x4x128 .f32) (b : Fin 2) (g h : Fin 4)
    (r j : Fin 1024) : latScores k q (ix5 b g h r j)
      = Scalar.select (IntOp.cmpi .sle (IntOp.absi (IntOp.subi (BitVec.ofNat 32 r.val) (BitVec.ofNat 32 j.val))) 128#32)
        (Ideal.div (∑ x : Fin 128, k (ix4 b j g x) * q (ix5 b r g h x)) (Ideal.sqrt (Ideal.ofBits .f32 0x43000000#32)))
        (Ideal.ofBits .f32 0xFF800000#32) := by
  pointwise [latScores]
  rfl

/-- The sinks at an index. -/
theorem sinkScores_apply (s : FVec Ideal S16 .f32) (b : Fin 2) (g h : Fin 4) (r : Fin 1024) (j : Fin 1) :
    sinkScores s (ix5 b g h r j) = s (ix1 ⟨g.val * 4 + h.val, by omega⟩) := by
  pointwise [sinkScores]

/-- A token's score, read at an index. -/
theorem scores_token (b : Fin 2) (g h : Fin 4) (r j : Fin 1024) :
    res_main_v148 V0 (ix5 b g h r ((j.castAdd 512).castSucc : Fin (1024 + 512 + 1)))
      = score (proj V0) b ⟨g.val * 4 + h.val, by omega⟩ r j := by
  have e : (⟨(g.val * 4 + h.val) / 4, by omega⟩ : Fin 4) = g := Fin.ext (by simp; omega)
  rw [scores_eq, sideBySide_apply, dif_pos (by simp; omega), dif_pos (by simp), latScores_apply, Cert.Common.div_sqrt_128,
    Cert.Common.ofBits_neg_inf]
  have n := Cert.LatIdeal.Attn.near_words r.val j.val r.isLt j.isLt
  unfold score
  simp only [e]
  refine (congrArg (fun b => Scalar.select b _ _) n).trans ?_
  simp only [Scalar.select, keys_apply, queries_apply]
  refine if_congr (by split_ifs with hn <;> simp [hn]) ?_ rfl
  exact congrArg (· * _) (Finset.sum_congr rfl fun d _ => mul_comm _ _)

/-- A cached key's score, read at an index. -/
theorem scores_cached (b : Fin 2) (g h : Fin 4) (r : Fin 1024) (j : Fin 512) :
    res_main_v148 V0 (ix5 b g h r ((j.natAdd 1024).castSucc : Fin (1024 + 512 + 1)))
      = scoreCached (proj V0) (V0 (Proc.devRef .tc main_arg1)) b ⟨g.val * 4 + h.val, by omega⟩ r j := by
  have e : (⟨(g.val * 4 + h.val) / 4, by omega⟩ : Fin 4) = g := Fin.ext (by simp; omega)
  have ej : (⟨((j.natAdd 1024).castSucc : Fin (1024 + 512 + 1)).val - 1024, by simp⟩ : Fin 512) = j := Fin.ext (by simp)
  rw [scores_eq, sideBySide_apply, dif_pos (by simp; omega), dif_neg (by simp), cacheScores_apply, Cert.Common.div_sqrt_128, ej]
  unfold scoreCached
  simp only [e, queries_apply]
  exact congrArg (· * _) (Finset.sum_congr rfl fun d _ => mul_comm _ _)

/-- The sink's score, read at an index. -/
theorem scores_sink (b : Fin 2) (g h : Fin 4) (r : Fin 1024) :
    res_main_v148 V0 (ix5 b g h r (Fin.last (1024 + 512)))
      = V0 (Proc.devRef .tc main_arg3) (ix1 ⟨g.val * 4 + h.val, by omega⟩) := by
  rw [scores_eq, sideBySide_apply, dif_neg (by simp), sinkScores_apply]

/-- A row's value along its scores. -/
abbrev along (x : FVec Ideal S2x4x4x1024 .f32) : FVec Ideal S2x4x4x1024x1537 .f32 :=
  broadcastInDim S2x4x4x1024x1537 ![0, 1, 2, 3, 4] bcast_S2x4x4x1024x1_S2x4x4x1024x1537_0_1_2_3_4
    (broadcastInDim S2x4x4x1024x1 ![0, 1, 2, 3] bcast_S2x4x4x1024_S2x4x4x1024x1_0_1_2_3 x)

/-- A row's greatest score. -/
def greatest (s : FVec Ideal S2x4x4x1024x1537 .f32) : FVec Ideal S2x4x4x1024 .f32 :=
  maximumf (broadcastInDim S2x4x4x1024 ![] bcast_S_S2x4x4x1024 (constant S_ .f32 0xFF800000#32))
    (Host.reduce FloatOps.maximumf s (constant S_ .f32 0xFF800000#32) reducesTo_S2x4x4x1024x1537_S2x4x4x1024_d4 h_S_)

/-- The greatest of a row of scores, as the reference folds it. -/
theorem reduced_apply (s : FVec Ideal S2x4x4x1024x1537 .f32) (b : Fin 2) (k h : Fin 4) (q : Fin 1024) :
    (Host.reduce FloatOps.maximumf s (constant (F := Ideal) S_ .f32 0xFF800000#32) reducesTo_S2x4x4x1024x1537_S2x4x4x1024_d4 h_S_)
      (ix4 b k h q) = top fun j : Fin 1537 => s (ix5 b k h q j) := by
  unfold top
  rw [← Cert.Common.ofBits_neg_inf]
  pointwise

/-- A greatest with minus infinity changes nothing. -/
theorem max_bot (x : FVec Ideal S2x4x4x1024 .f32) (i : S2x4x4x1024.Idx) :
    maximumf (broadcastInDim S2x4x4x1024 ![] bcast_S_S2x4x4x1024 (constant (F := Ideal) S_ .f32 0xFF800000#32)) x i = x i := by
  show max (Ideal.ofBits .f32 0xFF800000#32) (x i) = x i
  rw [Cert.Common.ofBits_neg_inf]
  exact max_eq_right bot_le

/-- The greatest of a row of scores. -/
theorem greatest_apply (s : FVec Ideal S2x4x4x1024x1537 .f32) (b : Fin 2) (k h : Fin 4) (q : Fin 1024) :
    greatest s (ix4 b k h q) = top fun j : Fin 1537 => s (ix5 b k h q j) :=
  (max_bot _ _).trans (reduced_apply s b k h q)

/-- The scores, with their type. -/
abbrev scores : FVec Ideal S2x4x4x1024x1537 .f32 := res_main_v148 V0

/-- The exponentials, with their type. -/
abbrev exps : FVec Ideal S2x4x4x1024x1537 .f32 := res_main_v155 V0

/-- The weights, with their type. -/
abbrev weights : FVec Ideal S2x4x4x1024x1536 .f32 := res_main_v160 V0

/-- The weighted values, with their type. -/
abbrev mixed : FVec Ideal S2048x2048 .f32 := res_main_v168 V0

/-- The tokens' rows, with their type. -/
abbrev latents : FVec Ideal S2x1024x9216 .f32 := res_main_v1 V0

/-- The cached values, with their type. -/
abbrev cachedV : FVec Ideal S2x512x4x128 .f32 := V0 (Proc.devRef .tc main_arg2)

/-- The exponentials of the scores less their greatest. -/
theorem exps_apply (b : Fin 2) (k h : Fin 4) (q : Fin 1024) (j : Fin 1537) :
    exps V0 (ix5 b k h q j)
      = Ideal.exp (scores V0 (ix5 b k h q j) - top fun j : Fin 1537 => scores V0 (ix5 b k h q j)) := by
  rw [← greatest_apply]
  show Host.exp (subf (scores V0) (along (greatest (scores V0)))) (ix5 b k h q j) = _
  pointwise

/-- The weights of the softmax, the sink's left out. -/
theorem weights_apply (b : Fin 2) (k h : Fin 4) (q : Fin 1024) (j : Fin 1536) :
    weights V0 (ix5 b k h q j) = soft (fun j : Fin 1537 => scores V0 (ix5 b k h q j)) j.castSucc := by
  unfold soft
  simp only [← exps_apply]
  pointwise [res_main_v160]
  rfl

/-- The weighted values of the tokens and of the cached keys. -/
theorem mixed_apply (r c : Fin 2048) : mixed V0 (ix2 r c)
    = ∑ x : Fin 1024, latents V0 (ix3 ⟨r.val / 1024, by omega⟩ x ⟨8704 + (c.val / 512 * 128 + c.val % 128), by omega⟩)
          * weights V0 (ix5 ⟨r.val / 1024, by omega⟩ ⟨c.val / 512, by omega⟩ ⟨c.val / 128 % 4, by omega⟩
            ⟨r.val % 1024, by omega⟩ ⟨x.val, by omega⟩)
      + ∑ x : Fin 512, cachedV V0 (ix4 ⟨r.val / 1024, by omega⟩ x ⟨c.val / 512, by omega⟩ ⟨c.val % 128, by omega⟩)
          * weights V0 (ix5 ⟨r.val / 1024, by omega⟩ ⟨c.val / 512, by omega⟩ ⟨c.val / 128 % 4, by omega⟩
            ⟨r.val % 1024, by omega⟩ ⟨1024 + x.val, by omega⟩) := by
  pointwise [res_main_v168]

/-- The weighted values are the attention the kernel's statement names. -/
theorem mixed_eq (r c : Fin 2048) : mixed V0 (ix2 r c)
    = attend (proj V0) (V0 (Proc.devRef .tc main_arg1)) (cachedV V0) (V0 (Proc.devRef .tc main_arg3))
      ⟨r.val / 1024, by omega⟩ ⟨r.val % 1024, by omega⟩ ⟨c.val / 128, by omega⟩ ⟨c.val % 128, by omega⟩ := by
  have d1 : c.val / 512 * 4 + c.val / 128 % 4 = c.val / 128 := by omega
  have d2 : c.val / 128 / 4 = c.val / 512 := by omega
  rw [mixed_apply]
  simp only [weights_apply]
  refine (Cert.Common.sum_soft_two (n := 1024) (k := 512)
    (fun j => scores V0 (ix5 ⟨r.val / 1024, by omega⟩ ⟨c.val / 512, by omega⟩ ⟨c.val / 128 % 4, by omega⟩
      ⟨r.val % 1024, by omega⟩ j)) _ _).trans ?_
  simp only [scores_token, scores_cached, scores_sink, rows_apply]
  unfold attend value
  simp only [d1, d2]

/-- The norm of each row. -/
def normed (y : FVec Ideal S2048x2048 .f32) (g : FVec Ideal S2048 .f32) : FVec Ideal S2048x2048 .bf16 :=
  truncf .bf16 (mulf (mulf y (broadcastInDim S2048x2048 ![0, 1] bcast_S2048x1_S2048x2048_0_1
      (Host.rsqrt (addf (Host.divf (broadcastInDim S2048x1 ![0] bcast_S2048_S2048x1_0
            (Host.reduceAdd (mulf y y) (constant S_ .f32 0x00000000#32) reducesTo_S2048x2048_S2048_d1 h_S_))
          (broadcastInDim S2048x1 ![] bcast_S_S2048x1 (constant S_ .f32 0x45000000#32)))
        (broadcastInDim S2048x1 ![] bcast_S_S2048x1 (constant S_ .f32 0x358637BD#32))))))
    (broadcastInDim S2048x2048 ![0, 1] bcast_S1x2048_S2048x2048_0_1
      (broadcastInDim S1x2048 ![1] bcast_S2048_S1x2048_1 g))) bitsLt_bf16_f32

/-- The norm of the reference, read at an index. -/
theorem normed_apply (y : FVec Ideal S2048x2048 .f32) (g : FVec Ideal S2048 .f32) (i : S2048x2048.Idx) :
    normed y g i = rms (fun k => y (ix2 (i 0) k)) (fun k => g (ix1 k)) (i 1) := by
  idx_vars i
  unfold rms
  pointwise [normed]

/-- The reference's result is the function the kernel's statement names. -/
theorem result (m : (ℓ : Loc nD τ sig) → Buf (Elt Ideal) ℓ) (c : Dev nD) :
    normed (res_main_v168 (StableHlo.launchContents m c)) (StableHlo.launchContents m c (Proc.devRef .tc main_arg4))
      = attn (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  funext i
  rw [normed_apply]
  exact congrArg (rms · _ _) (funext fun k => mixed_eq _ (i 0) k)

end Cert.LatRefIdeal.Attn

/-! ## The precondition -/

namespace Cert.Pre_finite.Gen

/-- The shapes the precondition's operations take are related as it states. -/
theorem facts : Cert.Pre_finite.Facts := ⟨by decide, by decide, by decide, by decide⟩

end Cert.Pre_finite.Gen

namespace Cert.Pre_finite.Attn

open Cert.Pre_finite

attribute [local instance] Cert.Pre_finite.Gen.facts

/-- A number less than infinity in absolute value is real. -/
theorem real_of_lt (x : EReal) (h : BitVec.ofBool (decide (FloatOps.absf (F := Ideal) (φ := .f32) x
    < Ideal.ofBits .f32 0x7F800000#32)) = 1#1) : Cert.Spatial.Real' x := by
  have e : Ideal.ofBits .f32 0x7F800000#32 = ⊤ := by simp [Ideal.ofBits, Ideal.ieee]
  rw [e] at h
  have hx : max x (-x) < ⊤ := by
    by_contra hn
    have : FloatOps.absf (F := Ideal) (φ := .f32) x = max x (-x) := rfl
    rw [this, decide_eq_false hn] at h
    exact absurd h (by decide)
  rw [max_lt_iff] at hx
  induction x with
  | bot => simp at hx
  | coe r => exact ⟨r, rfl⟩
  | top => simp at hx

variable (p : FVec Ideal S10240x9216 .f32) (ck cv : FVec Ideal S2x512x4x128 .f32) (sink : FVec Ideal S16 .f32)
  (gn : FVec Ideal S2048 .f32)

/-- The precondition's first result at an index. -/
theorem proj_apply (a : Fin 2048) (b : Fin 2560) : (fn p ck cv sink gn).1 (ix2 a b)
    = BitVec.ofBool (decide (FloatOps.absf (F := Ideal) (φ := .f32) (p (ix2 ⟨8192 + a.val, by omega⟩ ⟨6144 + b.val, by omega⟩))
      < Ideal.ofBits .f32 0x7F800000#32)) := by
  pointwise [fn]

/-- The precondition's second result at an index. -/
theorem cached_apply (b : Fin 2) (j : Fin 512) (g : Fin 4) (d : Fin 128) : (fn p ck cv sink gn).2.1 (ix4 b j g d)
    = BitVec.ofBool (decide (FloatOps.absf (F := Ideal) (φ := .f32) (ck (ix4 b j g d)) < Ideal.ofBits .f32 0x7F800000#32)) := by
  pointwise [fn]

/-- The precondition's third result at an index. -/
theorem sink_apply (h : Fin 16) : (fn p ck cv sink gn).2.2 (ix1 h)
    = BitVec.ofBool (decide (FloatOps.absf (F := Ideal) (φ := .f32) (sink (ix1 h)) < Ideal.ofBits .f32 0x7F800000#32)) := by
  pointwise [fn]

/-- Under the precondition the scores' operands are real. -/
theorem finite (hp : (fn p ck cv sink gn).1 = fun _ => 1#1) (hk : (fn p ck cv sink gn).2.1 = fun _ => 1#1)
    (hs : (fn p ck cv sink gn).2.2 = fun _ => 1#1) : Cert.LatIdeal.Attn.Finite p ck sink where
  query b r h d := by
    have := real_of_lt _ ((proj_apply p ck cv sink gn ⟨b.val * 1024 + r.val, by omega⟩ ⟨h.val * 128 + d.val, by omega⟩).symm.trans
      (congrFun hp _))
    exact this
  key b j g d := by
    have := real_of_lt _ ((proj_apply p ck cv sink gn ⟨b.val * 1024 + j.val, by omega⟩
      ⟨2048 + (g.val * 128 + d.val), by omega⟩).symm.trans (congrFun hp _))
    have e : (⟨6144 + (2048 + (g.val * 128 + d.val)), by omega⟩ : Fin 9216) = ⟨8192 + (g.val * 128 + d.val), by omega⟩ :=
      Fin.ext (by simp; omega)
    simp only [e] at this
    exact this
  cached b j g d := real_of_lt _ ((cached_apply p ck cv sink gn b j g d).symm.trans (congrFun hk _))
  sink h := real_of_lt _ ((sink_apply p ck cv sink gn h).symm.trans (congrFun hs _))

end Cert.Pre_finite.Attn

/-! ## The claims -/

namespace Cert.Proof.LatClaims

/-- The kernel computes without a fault and leaves its operands. -/
theorem frame_p : Cert.quiescent_Lat := fun m ρ _ => Cert.Lat.Gen.frame m ρ

/-- So does the idealized kernel. -/
theorem frame_pi : Cert.quiescent_LatIdeal := fun m ρ _ => Cert.LatIdeal.Gen.frame m ρ

/-- The same under the precondition. -/
theorem frame_pi_pre : Cert.quiescent_LatIdeal_pre_finite (hPre_finite := Cert.Pre_finite.Gen.facts) :=
  fun m ρ _ => frame_pi m ρ trivial

/-- So does the reference. -/
theorem frame_ri : Cert.quiescent_LatRefIdeal := fun m ρ _ =>
  (θ_run Cert.LatRefIdeal.defs _ _).mono (fun r h => ⟨fun c => (h c).2, sem_eq_zero_of_no_sems (by decide) r.2⟩)
    (Cert.LatRefIdeal.Value.run (F := Ideal) m ρ)

/-- The same under the precondition. -/
theorem frame_ri_pre : Cert.quiescent_LatRefIdeal_pre_finite (hPre_finite := Cert.Pre_finite.Gen.facts) :=
  fun m ρ _ => frame_ri m ρ trivial

/-- The named constants are the literals the kernel scales and masks its scores by. -/
theorem preserves : Cert.preserves_Lat_LatIdeal :=
  ⟨IdealRules.named_const.statement Cert.LatIdeal.κ "attn_scale" .f32 0x3DB504F3#32 (((Real.sqrt 128)⁻¹ : ℝ) : EReal) rfl,
    IdealRules.named_const.statement Cert.LatIdeal.κ "mask" .f32 0xF149F2CA#32 ⊥ rfl⟩

/-- Under the precondition kernel and reference end with one function of the arguments. -/
theorem algebraic : Cert.algebraic_LatIdeal_LatRefIdeal_pre_finite (hPre_finite := Cert.Pre_finite.Gen.facts) := by
  intro m ρ m' ρ' hpre hag
  refine ⟨fun c => Cert.LatIdeal.Attn.attn (m ((c.tc : Thread _ _).loc Cert.LatIdeal.main_arg0))
    (m ((c.tc : Thread _ _).loc Cert.LatIdeal.main_arg1)) (m ((c.tc : Thread _ _).loc Cert.LatIdeal.main_arg2))
    (m ((c.tc : Thread _ _).loc Cert.LatIdeal.main_arg3)) (m ((c.tc : Thread _ _).loc Cert.LatIdeal.main_arg4)), ?_, ?_⟩
  · exact (θ_run Cert.LatIdeal.defs _ _).mono
      (fun _ h c => ⟨(h c).1.trans (Cert.LatIdeal.Attn.final m c
        (Cert.Pre_finite.Attn.finite _ _ _ _ _ (hpre c).1 (hpre c).2.1 (hpre c).2.2)), (h c).2⟩)
      (Cert.LatIdeal.Value.run_blocks (F := Ideal) m ρ)
  refine (θ_run Cert.LatRefIdeal.defs _ _).mono (fun _ h c => ⟨(h c).1.trans ?_, (h c).2⟩)
    (Cert.LatRefIdeal.Value.run (F := Ideal) m' ρ')
  refine (Cert.LatRefIdeal.Attn.result m' c).trans ?_
  rw [(hag c).1, (hag c).2.1, (hag c).2.2.1, (hag c).2.2.2.1, (hag c).2.2.2.2]

end Cert.Proof.LatClaims

end
-- ==== Proof.PreNorm.lean ====
/- The norm before the mixers: each token's row over its root mean square, times the gain, then scaled and shifted by the
   modulation's row of that token. -/
module

public import proofs.«01_k».proof.Defs
public import proofs.«01_k».proof.Proof.Common
public import proofs.«01_k».proof.Proof.Gen.PreNorm.Frame
public import proofs.«01_k».proof.Proof.Gen.PreNormIdeal.Value
public import proofs.«01_k».proof.Proof.Gen.PreNormRefIdeal.Run
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PreNormIdeal.Norm

open Cert.Common Cert.PreNormIdeal Cert.PreNormIdeal.Gen

variable (m : (ℓ : Loc nD τ sig) → Buf (Elt Ideal) ℓ)

/-- The normed row, times one plus the token's scale, plus the token's shift. -/
def modulated (x : FVec Ideal S10240x4096 .f32) (g : FVec Ideal S4096 .f32) (md : FVec Ideal S8x24576 .f32) :
    FVec Ideal S10240x4096 .bf16 := fun i =>
  rmsWide (fun k => x (ix2 (i 0) k)) (fun k => g (ix1 k)) (i 1)
      * (1
        + md (ix2 (gateRow (i 0)) ⟨4096 + (i 1).val, by have := (i 1).isLt; simp at this; omega⟩))
    + md (ix2 (gateRow (i 0)) ⟨(i 1).val, by have := (i 1).isLt; simp at this; omega⟩)

/-- Which block of each array a grid point works on. -/
theorem idx : ∀ t : Fin grid0.N, win0_0.index t = ![t.val, 0] ∧ win0_1.index t = ![0, 0] ∧ win0_2.index t = ![0, 0]
    ∧ win0_3.index t = ![0, 1] ∧ win0_4.index t = ![t.val, 0] := by decide +kernel

/-- The modulation's row at a grid point. -/
theorem row : ∀ t : Fin grid0.N, k0_off1 (grid0.coords t)
    = ![if t.val * 256 < 8192 then 0 else 1 + (t.val * 256 - 8192) / 1024, 0] := by decide +kernel

/-- The result holds the modulated rows at the kernel's exit. -/
theorem final (c : Dev nD) : (dats m 0 c).arrAt 4 (cfgs 0).N
    = modulated (m ((c : Thread nD τ).loc main_arg0)) (m ((c : Thread nD τ).loc main_arg1))
      (m ((c : Thread nD τ).loc main_arg2)) := by
  refine (dats m 0 c).arrAt_eq_of_covers 4 _ (by decide +kernel) fun t hf y => ?_
  blk_simp
  rw [after0_4]
  unfold outsAt0
  frame_out
  idx_vars y
  pointwise [k0_pay1, k0_pay2]
  have h := idx t
  have ht : t.val < 40 := t.isLt
  have he : ((View.whole main_v1).slice (win0_4.rect t)).emb (ix2 y0 y1) = ix2 ⟨t.val * 256 + y0.val, by omega⟩ y1 := by
    blk_ext [h.2.2.2.2]
  have hr := row t
  have hg : gateRow ⟨t.val * 256 + y0.val, by omega⟩
      = ⟨if t.val * 256 < 8192 then 0 else 1 + (t.val * 256 - 8192) / 1024, by split_ifs <;> omega⟩ :=
    Fin.ext (gateRow_block (t.val * 256) y0.val (by omega) (by omega))
  have e0 : ∀ k : Fin 4096, iblk m c 0 t (ix2 y0 k)
      = m ((c : Thread nD τ).loc main_arg0) (ix2 ⟨t.val * 256 + y0.val, by omega⟩ k) := fun k => by
    blk_point [iblk, V, h.1]
  have e1 : iblk m c 1 t (ix2 0 y1) = m ((c : Thread nD τ).loc main_arg1) (ix1 y1) := by
    blk_point [iblk, h.2.1]
  rw [he]
  simp only [e0, e1]
  pointwise [modulated, rmsWide]
  rw [hg]
  blk_point [iblk, V, h.2.2.1, h.2.2.2.1, hr]

end Cert.PreNormIdeal.Norm

namespace Cert.PreNormRefIdeal.Norm

open Cert.Common Cert.PreNormRefIdeal Cert.PreNormRefIdeal.Gen

/-- The modulation's rows spread over the tokens. -/
def spread (v : FVec Ideal S8x4096 .f32) : FVec Ideal S10240x4096 .f32 :=
  concatenate S10240x4096 0 [⟨S8192x4096, (broadcastInDim S8192x4096 ![1] bcast_S4096_S8192x4096_1
      (shapeCast _ (extractStridedSlice S1x4096 ![0, 0] v slices_S8x4096_S1x4096_0_0) shapeCasts_S1x4096_S4096))⟩,
    ⟨S2048x4096, (shapeCast _ (broadcastInDim S2x1024x4096 ![0, 1, 2] bcast_S2x1x4096_S2x1024x4096_0_1_2
      (broadcastInDim S2x1x4096 ![0, 2] bcast_S2x4096_S2x1x4096_0_2 (extractStridedSlice S2x4096 ![1, 0]
        v slices_S8x4096_S2x4096_1_0))) shapeCasts_S2x1024x4096_S2048x4096)⟩] concatenates_S8192x4096_S2048x4096_S10240x4096_d0

/-- A token reads its own row. -/
theorem spread_apply (v : FVec Ideal S8x4096 .f32) (r : Fin 10240) (k : Fin 4096) :
    spread v (ix2 r k) = v (ix2 (gateRow r) k) := by
  pointwise [spread]
  unfold gateRow
  by_cases h : r.val < 8192
  · rw [dif_pos h, if_pos h]
  · rw [dif_neg h, if_neg h]

end Cert.PreNormRefIdeal.Norm

namespace Cert.Proof.PreNormClaims

/-- The kernel computes without a fault and leaves its operands. -/
theorem frame_p : Cert.quiescent_PreNorm := fun m ρ _ => Cert.PreNorm.Gen.frame m ρ

/-- So does the idealized kernel. -/
theorem frame_pi : Cert.quiescent_PreNormIdeal := fun m ρ _ => Cert.PreNormIdeal.Gen.frame m ρ

/-- So does the reference. -/
theorem frame_ri : Cert.quiescent_PreNormRefIdeal := fun m ρ _ =>
  (θ_run Cert.PreNormRefIdeal.defs _ _).mono (fun r h => ⟨fun c => (h c).2, sem_eq_zero_of_no_sems (by decide) r.2⟩)
    (Cert.PreNormRefIdeal.Value.run (F := Ideal) m ρ)

/-- The kernel has no literal that idealization names. -/
theorem preserves : Cert.preserves_PreNorm_PreNormIdeal := trivial

/-- The idealized kernel and the reference leave the same result: the rows, normed and modulated. -/
theorem algebraic : Cert.algebraic_PreNormIdeal_PreNormRefIdeal := by
  intro m ρ m' ρ' _ hag
  refine ⟨fun c => Cert.PreNormIdeal.Norm.modulated (m ((c.tc : Thread _ _).loc Cert.PreNormIdeal.main_arg0))
    (m ((c.tc : Thread _ _).loc Cert.PreNormIdeal.main_arg1))
    (m ((c.tc : Thread _ _).loc Cert.PreNormIdeal.main_arg2)), ?_, ?_⟩
  · exact (θ_run Cert.PreNormIdeal.defs _ _).mono
      (fun _ h c => ⟨(h c).1.trans (Cert.PreNormIdeal.Norm.final m c), (h c).2⟩)
      (Cert.PreNormIdeal.Value.run_blocks (F := Ideal) m ρ)
  refine (θ_run Cert.PreNormRefIdeal.defs _ _).mono (fun _ h c => ⟨(h c).1.trans ?_, (h c).2⟩)
    (Cert.PreNormRefIdeal.Value.run (F := Ideal) m' ρ')
  rw [(hag c).1, (hag c).2.1, (hag c).2.2]
  funext i
  idx_vars i
  have hs := fun v => Cert.PreNormRefIdeal.Norm.spread_apply v i0 i1
  unfold Cert.PreNormRefIdeal.Norm.spread at hs
  pointwise [Cert.PreNormIdeal.Norm.modulated, Cert.Common.rmsWide, hs]

end Cert.Proof.PreNormClaims

end
-- ==== Proof.Mod.lean ====
/- The modulation of the layers: for each layer the conditioning rows (the context's, then one for each sequence of latent
   tokens, then zeros) through silu, times the layer's weights, plus its bias. -/
module

public import proofs.«01_k».proof.Defs
public import proofs.«01_k».proof.Proof.Common
public import proofs.«01_k».proof.Proof.Gen.Mod.Frame
public import proofs.«01_k».proof.Proof.Gen.ModIdeal.Value
public import proofs.«01_k».proof.Proof.Gen.ModRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ModIdeal.Mod

open Cert.ModIdeal Cert.ModIdeal.Gen

variable (m : (ℓ : Loc nD τ sig) → Buf (Elt Ideal) ℓ)

/-- The conditioning rows: the context's, the latents', zeros. -/
def cond (c0 : FVec Ideal S4096 .f32) (c : FVec Ideal S2x4096 .f32) : FVec Ideal S8x4096 .f32 :=
  concatenate S8x4096 0 [⟨S1x4096, broadcastInDim S1x4096 ![1] bcast_S4096_S1x4096_1 c0⟩, ⟨S2x4096, c⟩,
    ⟨S5x4096, broadcastInDim S5x4096 ![] bcast_S_S5x4096 (constant S_ .f32 0x00000000#32)⟩]
    concatenates_S1x4096_S2x4096_S5x4096_S8x4096_d0

/-- The conditioning rows, read at an index. -/
theorem cond_apply (c0 : FVec Ideal S4096 .f32) (c : FVec Ideal S2x4096 .f32) (r : Fin 8) (d : Fin 4096) :
    cond c0 c (ix2 r d) = if _h : r.val < 1 then c0 (ix1 d)
      else if h : r.val - 1 < 2 then c (ix2 ⟨r.val - 1, h⟩ d) else 0 := by
  pointwise [cond]

/-- The modulation of every layer, from the conditioning rows `a`. -/
def modulation (a : FVec Ideal S8x4096 .f32) (w : FVec Ideal S4x4096x24576 .f32) (b : FVec Ideal S4x24576 .f32) :
    FVec Ideal S4x8x24576 .f32 := fun i =>
  (∑ d : Fin 4096, a (ix2 (i 1) d) * Ideal.logistic (a (ix2 (i 1) d)) * w (ix3 (i 0) d (i 2))) + b (ix2 (i 0) (i 2))

/-- Which block of each array a grid point works on. -/
theorem idx : ∀ t : Fin grid0.N, win0_0.index t = ![0, 0] ∧ win0_1.index t = ![t.val / 48, 0, t.val % 48]
    ∧ win0_2.index t = ![t.val / 48, 0, t.val % 48] ∧ win0_3.index t = ![t.val / 48, 0, t.val % 48] := by decide +kernel

/-- What the grid's conditioning operand holds when it starts. -/
theorem host (c : Dev nD) : V m c main_v2
    = cond (m ((c : Thread nD τ).loc main_arg0)) (m ((c : Thread nD τ).loc main_arg1)) := rfl

/-- The result array after the run holds the modulation. -/
theorem final (c : Dev nD) : (dats m 0 c).arrAt 3 (cfgs 0).N
    = modulation (cond (m ((c : Thread nD τ).loc main_arg0)) (m ((c : Thread nD τ).loc main_arg1)))
      (m ((c : Thread nD τ).loc main_arg2)) (m ((c : Thread nD τ).loc main_arg3)) := by
  refine (dats m 0 c).arrAt_eq_of_covers 3 _ (by decide +kernel) fun t hf y => ?_
  blk_simp
  rw [after0_3]
  frame_out
  idx_vars y
  have h := idx t
  have ht : t.val < 192 := t.isLt
  have he : ((View.whole main_v4).slice (win0_3.rect t)).emb (ix3 y0 y1 y2)
      = ix3 ⟨t.val / 48, by omega⟩ y1 ⟨t.val % 48 * 512 + y2.val, by omega⟩ := by
    blk_ext [h.2.2.2]
  have hc : ∀ d : Fin 4096, iblk m c 0 t (ix2 y1 d)
      = cond (m ((c : Thread nD τ).loc main_arg0)) (m ((c : Thread nD τ).loc main_arg1)) (ix2 y1 d) := fun d => by
    have e : (win0_0.blk t).view.emb (ix2 y1 d) = ix2 y1 d := by
      blk_ext [h.1]
    exact (congrFun (host m c) _).trans (congrArg _ e)
  have hw : ∀ d : Fin 4096, iblk m c 1 t (ix3 0 d y2) = m ((c : Thread nD τ).loc main_arg2)
      (ix3 ⟨t.val / 48, by omega⟩ d ⟨t.val % 48 * 512 + y2.val, by omega⟩) := fun d => by
    blk_point [iblk, V, h.2.1]
  have hb : iblk m c 2 t (ix3 0 0 y2) = m ((c : Thread nD τ).loc main_arg3)
      (ix2 ⟨t.val / 48, by omega⟩ ⟨t.val % 48 * 512 + y2.val, by omega⟩) := by
    blk_point [iblk, h.2.2.1]
  rw [he]
  generalize hq : cond (m ((c : Thread nD τ).loc main_arg0)) (m ((c : Thread nD τ).loc main_arg1)) = q at hc ⊢
  pointwise [k0_pay1, modulation]
  simp only [hc, hw, hb]

end Cert.ModIdeal.Mod

namespace Cert.Proof.ModClaims

/-- The kernel computes without a fault and leaves its operands. -/
theorem frame_p : Cert.quiescent_Mod := fun m ρ _ => Cert.Mod.Gen.frame m ρ

/-- So does the idealized kernel. -/
theorem frame_pi : Cert.quiescent_ModIdeal := fun m ρ _ => Cert.ModIdeal.Gen.frame m ρ

/-- So does the reference. -/
theorem frame_ri : Cert.quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

/-- The kernel has no literal that idealization names. -/
theorem preserves : Cert.preserves_Mod_ModIdeal := trivial

/-- The idealized kernel and the reference leave the same result: the modulation of every layer. -/
theorem algebraic : Cert.algebraic_ModIdeal_ModRefIdeal := by
  intro m ρ m' ρ' _ hag
  refine ⟨fun c => Cert.ModIdeal.Mod.modulation
    (Cert.ModIdeal.Mod.cond (m ((c.tc : Thread _ _).loc Cert.ModIdeal.main_arg0))
      (m ((c.tc : Thread _ _).loc Cert.ModIdeal.main_arg1)))
    (m ((c.tc : Thread _ _).loc Cert.ModIdeal.main_arg2)) (m ((c.tc : Thread _ _).loc Cert.ModIdeal.main_arg3)), ?_, ?_⟩
  · exact (θ_run Cert.ModIdeal.defs _ _).mono
      (fun _ h c => ⟨(h c).1.trans (Cert.ModIdeal.Mod.final m c), (h c).2⟩)
      (Cert.ModIdeal.Value.run_blocks (F := Ideal) m ρ)
  refine (θ_run Cert.ModRefIdeal.defs _ _).mono (fun _ h c => ⟨(h c).1.trans ?_, (h c).2⟩)
    (Cert.ModRefIdeal.Value.run (F := Ideal) m' ρ')
  rw [(hag c).1, (hag c).2.1, (hag c).2.2.1, (hag c).2.2.2]
  funext i
  idx_vars i
  generalize hk : Cert.ModIdeal.Mod.cond (m ((c.tc : Thread _ _).loc Cert.ModIdeal.main_arg0))
      (m ((c.tc : Thread _ _).loc Cert.ModIdeal.main_arg1)) = a
  unfold Cert.ModIdeal.Mod.cond at hk
  rw [hk]
  pointwise [Cert.ModIdeal.Mod.modulation]
  exact congrArg (· + _) (Finset.sum_congr rfl fun d _ => mul_comm _ _)

end Cert.Proof.ModClaims

end
-- ==== Proof.Prompt.lean ====
/- The final norm of the context tokens: each token's row of the stream over its root mean square, times the gain. -/
module

public import proofs.«01_k».proof.Defs
public import proofs.«01_k».proof.Proof.Common
public import proofs.«01_k».proof.Proof.Gen.Prompt.Frame
public import proofs.«01_k».proof.Proof.Gen.PromptIdeal.Value
public import proofs.«01_k».proof.Proof.Gen.PromptRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PromptIdeal.Norm

open Cert.Common Cert.PromptIdeal Cert.PromptIdeal.Gen

variable (m : (ℓ : Loc nD τ sig) → Buf (Elt Ideal) ℓ)

/-- The norm of the rows up to 8192 of the stream. -/
def normed (x : FVec Ideal S10240x4096 .f32) (g : FVec Ideal S4096 .f32) : FVec Ideal S8192x4096 .f32 := fun i =>
  rmsWide (fun k => x (ix2 ⟨(i 0).val, by have := (i 0).isLt; simp at this; omega⟩ k)) (fun k => g (ix1 k)) (i 1)

/-- Which block of each array a grid point works on. -/
theorem idx : ∀ t : Fin grid0.N, win0_0.index t = ![t.val, 0] ∧ win0_1.index t = ![0, 0]
    ∧ win0_2.index t = ![t.val, 0] := by decide +kernel

/-- The result array after the run holds the normed rows. -/
theorem final (c : Dev nD) : (dats m 0 c).arrAt 2 (cfgs 0).N
    = normed (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have h := idx t
  have ht : t.val < 32 := t.isLt
  have he : ((View.whole main_v1).slice (win0_2.rect t)).emb (ix2 y0 y1) = ix2 ⟨t.val * 256 + y0.val, by omega⟩ y1 := by
    blk_ext [h.2.2]
  rw [he]
  pointwise [k0_pay1, normed, rmsWide]
  blk_point [iblk, V, h.1, h.2.1]

end Cert.PromptIdeal.Norm

namespace Cert.Proof.PromptClaims

/-- The kernel computes without a fault and leaves its operands. -/
theorem frame_p : Cert.quiescent_Prompt := fun m ρ _ => Cert.Prompt.Gen.frame m ρ

/-- So does the idealized kernel. -/
theorem frame_pi : Cert.quiescent_PromptIdeal := fun m ρ _ => Cert.PromptIdeal.Gen.frame m ρ

/-- So does the reference. -/
theorem frame_ri : Cert.quiescent_PromptRefIdeal := fun m ρ _ =>
  (θ_run Cert.PromptRefIdeal.defs _ _).mono (fun r h => ⟨fun c => (h c).2, sem_eq_zero_of_no_sems (by decide) r.2⟩)
    (Cert.PromptRefIdeal.Value.run (F := Ideal) m ρ)

/-- The kernel has no literal that idealization names. -/
theorem preserves : Cert.preserves_Prompt_PromptIdeal := trivial

/-- The idealized kernel and the reference leave the same result: the rows, each normed. -/
theorem algebraic : Cert.algebraic_PromptIdeal_PromptRefIdeal := by
  intro m ρ m' ρ' _ hag
  refine ⟨fun c => Cert.PromptIdeal.Norm.normed (m ((c.tc : Thread _ _).loc Cert.PromptIdeal.main_arg0))
    (m ((c.tc : Thread _ _).loc Cert.PromptIdeal.main_arg1)), ?_, ?_⟩
  · exact (θ_run Cert.PromptIdeal.defs _ _).mono
      (fun _ h c => ⟨(h c).1.trans (Cert.PromptIdeal.Norm.final m c), (h c).2⟩)
      (Cert.PromptIdeal.Value.run_blocks (F := Ideal) m ρ)
  refine (θ_run Cert.PromptRefIdeal.defs _ _).mono (fun _ h c => ⟨(h c).1.trans ?_, (h c).2⟩)
    (Cert.PromptRefIdeal.Value.run (F := Ideal) m' ρ')
  rw [(hag c).1, (hag c).2]
  funext i
  idx_vars i
  pointwise [Cert.PromptIdeal.Norm.normed, Cert.Common.rmsWide]

end Cert.Proof.PromptClaims

end
-- ==== Proof.Sample.lean ====
/- The final norm of the latent tokens: each token's row of the stream over its root mean square, times the gain. -/
module

public import proofs.«01_k».proof.Defs
public import proofs.«01_k».proof.Proof.Common
public import proofs.«01_k».proof.Proof.Gen.Sample.Frame
public import proofs.«01_k».proof.Proof.Gen.SampleIdeal.Value
public import proofs.«01_k».proof.Proof.Gen.SampleRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SampleIdeal.Norm

open Cert.Common Cert.SampleIdeal Cert.SampleIdeal.Gen

variable (m : (ℓ : Loc nD τ sig) → Buf (Elt Ideal) ℓ)

/-- The norm of the rows from 8192 on of the stream. -/
def normed (x : FVec Ideal S10240x4096 .f32) (g : FVec Ideal S4096 .f32) : FVec Ideal S2048x4096 .f32 := fun i =>
  rmsWide (fun k => x (ix2 ⟨8192 + (i 0).val, by have := (i 0).isLt; simp at this; omega⟩ k)) (fun k => g (ix1 k)) (i 1)

/-- Which block of each array a grid point works on. -/
theorem idx : ∀ t : Fin grid0.N, win0_0.index t = ![32 + t.val, 0] ∧ win0_1.index t = ![0, 0]
    ∧ win0_2.index t = ![t.val, 0] := by decide +kernel

/-- The result array after the run holds the normed rows. -/
theorem final (c : Dev nD) : (dats m 0 c).arrAt 2 (cfgs 0).N
    = normed (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have h := idx t
  have ht : t.val < 8 := t.isLt
  have he : ((View.whole main_v1).slice (win0_2.rect t)).emb (ix2 y0 y1) = ix2 ⟨t.val * 256 + y0.val, by omega⟩ y1 := by
    blk_ext [h.2.2]
  rw [he]
  pointwise [k0_pay1, normed, rmsWide]
  blk_point [iblk, V, h.1, h.2.1]

end Cert.SampleIdeal.Norm

namespace Cert.Proof.SampleClaims

/-- The kernel computes without a fault and leaves its operands. -/
theorem frame_p : Cert.quiescent_Sample := fun m ρ _ => Cert.Sample.Gen.frame m ρ

/-- So does the idealized kernel. -/
theorem frame_pi : Cert.quiescent_SampleIdeal := fun m ρ _ => Cert.SampleIdeal.Gen.frame m ρ

/-- So does the reference. -/
theorem frame_ri : Cert.quiescent_SampleRefIdeal := fun m ρ _ =>
  (θ_run Cert.SampleRefIdeal.defs _ _).mono (fun r h => ⟨fun c => (h c).2, sem_eq_zero_of_no_sems (by decide) r.2⟩)
    (Cert.SampleRefIdeal.Value.run (F := Ideal) m ρ)

/-- The kernel has no literal that idealization names. -/
theorem preserves : Cert.preserves_Sample_SampleIdeal := trivial

/-- The idealized kernel and the reference leave the same result: the rows, each normed. -/
theorem algebraic : Cert.algebraic_SampleIdeal_SampleRefIdeal := by
  intro m ρ m' ρ' _ hag
  refine ⟨fun c => Cert.SampleIdeal.Norm.normed (m ((c.tc : Thread _ _).loc Cert.SampleIdeal.main_arg0))
    (m ((c.tc : Thread _ _).loc Cert.SampleIdeal.main_arg1)), ?_, ?_⟩
  · exact (θ_run Cert.SampleIdeal.defs _ _).mono
      (fun _ h c => ⟨(h c).1.trans (Cert.SampleIdeal.Norm.final m c), (h c).2⟩)
      (Cert.SampleIdeal.Value.run_blocks (F := Ideal) m ρ)
  refine (θ_run Cert.SampleRefIdeal.defs _ _).mono (fun _ h c => ⟨(h c).1.trans ?_, (h c).2⟩)
    (Cert.SampleRefIdeal.Value.run (F := Ideal) m' ρ')
  rw [(hag c).1, (hag c).2]
  funext i
  idx_vars i
  pointwise [Cert.SampleIdeal.Norm.normed, Cert.Common.rmsWide]

end Cert.Proof.SampleClaims

end
-- ==== Proof.lean ====
module

public import proofs.«01_k».proof.Defs
public import proofs.«01_k».proof.Proof.Ctx
public import proofs.«01_k».proof.Proof.InProj
public import proofs.«01_k».proof.Proof.Down
public import proofs.«01_k».proof.Proof.OutProj
public import proofs.«01_k».proof.Proof.Up
public import proofs.«01_k».proof.Proof.LatRef
public import proofs.«01_k».proof.Proof.PreNorm
public import proofs.«01_k».proof.Proof.Mod
public import proofs.«01_k».proof.Proof.Prompt
public import proofs.«01_k».proof.Proof.Sample
public import Idealize.ShloMosaic.Adequacy
public import Idealize.ShloMosaic.Init

@[expose] public section

noncomputable section

namespace Cert.Proof

open Idealize.ShloMosaic Idealize.SL.Sem

/-- Every claim about every call, with the witnesses of the programs' stated facts first. -/
theorem claim : Cert.Claim := ⟨
  Cert.Ctx.Gen.facts, Cert.CtxIdeal.Gen.facts, Cert.CtxRefIdeal.Gen.facts, Cert.InProj.Gen.facts,
  Cert.InProjIdeal.Gen.facts, Cert.InProjRefIdeal.Gen.facts, Cert.Down.Gen.facts, Cert.DownIdeal.Gen.facts,
  Cert.DownRefIdeal.Gen.facts, Cert.OutProj.Gen.facts, Cert.OutProjIdeal.Gen.facts, Cert.OutProjRefIdeal.Gen.facts,
  Cert.Up.Gen.facts, Cert.UpIdeal.Gen.facts, Cert.UpRefIdeal.Gen.facts, Cert.Lat.Gen.facts, Cert.LatIdeal.Gen.facts,
  Cert.LatRefIdeal.Gen.facts, Cert.PreNorm.Gen.facts, Cert.PreNormIdeal.Gen.facts, Cert.PreNormRefIdeal.Gen.facts,
  Cert.Mod.Gen.facts, Cert.ModIdeal.Gen.facts, Cert.ModRefIdeal.Gen.facts, Cert.Prompt.Gen.facts,
  Cert.PromptIdeal.Gen.facts, Cert.PromptRefIdeal.Gen.facts, Cert.Sample.Gen.facts, Cert.SampleIdeal.Gen.facts,
  Cert.SampleRefIdeal.Gen.facts, Cert.Pre_finite.Gen.facts,
  CtxClaims.frame_p, CtxClaims.frame_pi, CtxClaims.frame_ri, InProjClaims.frame_p, InProjClaims.frame_pi,
  InProjClaims.frame_ri, DownClaims.frame_p, DownClaims.frame_pi, DownClaims.frame_ri, OutProjClaims.frame_p,
  OutProjClaims.frame_pi, OutProjClaims.frame_ri, UpClaims.frame_p, UpClaims.frame_pi, UpClaims.frame_ri,
  LatClaims.frame_p, LatClaims.frame_pi, LatClaims.frame_pi_pre, LatClaims.frame_ri, LatClaims.frame_ri_pre,
  PreNormClaims.frame_p, PreNormClaims.frame_pi, PreNormClaims.frame_ri, ModClaims.frame_p, ModClaims.frame_pi,
  ModClaims.frame_ri, PromptClaims.frame_p, PromptClaims.frame_pi, PromptClaims.frame_ri, SampleClaims.frame_p,
  SampleClaims.frame_pi, SampleClaims.frame_ri, CtxClaims.preserves, CtxClaims.algebraic, InProjClaims.preserves,
  InProjClaims.algebraic, DownClaims.preserves, DownClaims.algebraic, OutProjClaims.preserves,
  OutProjClaims.algebraic, UpClaims.preserves, UpClaims.algebraic, LatClaims.preserves, LatClaims.algebraic,
  PreNormClaims.preserves, PreNormClaims.algebraic, ModClaims.preserves, ModClaims.algebraic, PromptClaims.preserves,
  PromptClaims.algebraic, SampleClaims.preserves, SampleClaims.algebraic⟩

end Cert.Proof

end
